-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S2x256x1024 : Shape := ⟨3, ![2, 256, 1024]⟩
abbrev S3x2x256x2048 : Shape := ⟨4, ![3, 2, 256, 2048]⟩
abbrev S2 : Shape := ⟨1, ![2]⟩
abbrev S6 : Shape := ⟨1, ![6]⟩
abbrev S3x2 : Shape := ⟨2, ![3, 2]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S256x2048 : Shape := ⟨2, ![256, 2048]⟩
abbrev S1x1 : Shape := ⟨2, ![1, 1]⟩
abbrev S1x1x256x2048 : Shape := ⟨4, ![1, 1, 256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .local _ .vmem, ⟨0, _⟩ => ⟨S1024x2048, .f32⟩
  | .local _ .vmem, ⟨1, _⟩ => ⟨S2048x2048, .f32⟩
  | .local _ .vmem, ⟨2, _⟩ => ⟨S2x256x1024, .f32⟩
  | .local _ .vmem, ⟨3, _⟩ => ⟨S2048x2048, .bf16⟩
  | .local _ .vmem, ⟨4, _⟩ => ⟨S3x2x256x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => true
  | ⟨1, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 2 28 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 1

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c_m1_i32 : BitVec 32 := 4294967295#32
  let v4 : BitVec 32 := Scalar.addi v3 c_m1_i32
  let c4_i32_1 : BitVec 32 := 4#32
  let v5 : BitVec 32 := Scalar.remsi v4 c4_i32_1
  let c1_i32_8 : BitVec 32 := 1#32
  let v13 : BitVec 32 := Scalar.muli v5 c1_i32_8
  let v14 : BitVec 32 := Scalar.addi c0_i32 v13
  v14.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v6 : BitVec 32 := Scalar.addi v2 c4_i32_2
  let c1_i32_3 : BitVec 32 := 1#32
  let v7 : BitVec 32 := Scalar.addi v6 c1_i32_3
  let c4_i32_4 : BitVec 32 := 4#32
  let v8 : BitVec 32 := Scalar.remsi v7 c4_i32_4
  let c1_i32_10 : BitVec 32 := 1#32
  let v15 : BitVec 32 := Scalar.muli v8 c1_i32_10
  let v16 : BitVec 32 := Scalar.addi c0_i32_11 v15
  v16.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_5 : BitVec 32 := 4#32
  let v9 : BitVec 32 := Scalar.addi v2 c4_i32_5
  let c2_i32 : BitVec 32 := 2#32
  let v10 : BitVec 32 := Scalar.addi v9 c2_i32
  let c4_i32_6 : BitVec 32 := 4#32
  let v11 : BitVec 32 := Scalar.remsi v10 c4_i32_6
  let c1_i32_13 : BitVec 32 := 1#32
  let v17 : BitVec 32 := Scalar.muli v11 c1_i32_13
  let v18 : BitVec 32 := Scalar.addi c0_i32_14 v17
  v18.toNat
def k0_off1 (d0 : Dev nD) (c0_i32_16 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_15 : BitVec 32 := 4#32
  let v19 : BitVec 32 := Scalar.addi v2 c4_i32_15
  let v20 : BitVec 32 := Scalar.addi v19 c0_i32_16
  let c4_i32_17 : BitVec 32 := 4#32
  let v21 : BitVec 32 := Scalar.remsi v20 c4_i32_17
  let c512_i32 : BitVec 32 := 512#32
  let v22 : BitVec 32 := Scalar.muli v21 c512_i32
  let c0_i32_53 : BitVec 32 := 0#32
  ![v22.toNat, 0]
def k0_off1_at (r : Fin 4) : BitVec 32 :=
  if r.val < 2 then
    if r.val < 1 then
      0#32
    else
      4294967295#32
  else
    if r.val < 3 then
      2#32
    else
      1#32
def k0_off2 (d0 : Dev nD) (c0_i32_19 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_18 : BitVec 32 := 4#32
  let v23 : BitVec 32 := Scalar.addi v2 c4_i32_18
  let v24 : BitVec 32 := Scalar.addi v23 c0_i32_19
  let c4_i32_20 : BitVec 32 := 4#32
  let v25 : BitVec 32 := Scalar.remsi v24 c4_i32_20
  let c512_i32_21 : BitVec 32 := 512#32
  let v26 : BitVec 32 := Scalar.muli v25 c512_i32_21
  let c256_i32 : BitVec 32 := 256#32
  let v27 : BitVec 32 := Scalar.addi v26 c256_i32
  let c0_i32_58 : BitVec 32 := 0#32
  ![v27.toNat, 0]
def k0_off2_at (r : Fin 4) : BitVec 32 :=
  if r.val < 2 then
    if r.val < 1 then
      0#32
    else
      1#32
  else
    if r.val < 3 then
      2#32
    else
      4294967295#32
def k0_off3 (d0 : Dev nD) (c0_i32_16 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_15 : BitVec 32 := 4#32
  let v19 : BitVec 32 := Scalar.addi v2 c4_i32_15
  let v20 : BitVec 32 := Scalar.addi v19 c0_i32_16
  let c4_i32_17 : BitVec 32 := 4#32
  let v21 : BitVec 32 := Scalar.remsi v20 c4_i32_17
  let c512_i32 : BitVec 32 := 512#32
  let v22 : BitVec 32 := Scalar.muli v21 c512_i32
  let v76 : Index := Scalar.indexCast v22
  let c0_68 : Index := 0#32
  ![v76.toNat, 0]
def k0_off3_at (r : Fin 4) : BitVec 32 :=
  if r.val < 2 then
    if r.val < 1 then
      0#32
    else
      4294967295#32
  else
    if r.val < 3 then
      2#32
    else
      1#32
def k0_off4 (d0 : Dev nD) (c0_i32_16 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_15 : BitVec 32 := 4#32
  let v19 : BitVec 32 := Scalar.addi v2 c4_i32_15
  let v20 : BitVec 32 := Scalar.addi v19 c0_i32_16
  let c4_i32_17 : BitVec 32 := 4#32
  let v21 : BitVec 32 := Scalar.remsi v20 c4_i32_17
  let c512_i32 : BitVec 32 := 512#32
  let v22 : BitVec 32 := Scalar.muli v21 c512_i32
  let c0_i32_83 : BitVec 32 := 0#32
  ![v22.toNat, 0]
def k0_off4_at (r : Fin 4) : BitVec 32 :=
  if r.val < 2 then
    if r.val < 1 then
      0#32
    else
      4294967295#32
  else
    if r.val < 3 then
      2#32
    else
      1#32
def k0_dev4 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c_m1_i32 : BitVec 32 := 4294967295#32
  let v4 : BitVec 32 := Scalar.addi v3 c_m1_i32
  let c4_i32_1 : BitVec 32 := 4#32
  let v5 : BitVec 32 := Scalar.remsi v4 c4_i32_1
  let c1_i32_79 : BitVec 32 := 1#32
  let v85 : BitVec 32 := Scalar.muli v5 c1_i32_79
  let v86 : BitVec 32 := Scalar.addi c0_i32_80 v85
  v86.toNat
def k0_off5 (d0 : Dev nD) (c0_i32_19 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_18 : BitVec 32 := 4#32
  let v23 : BitVec 32 := Scalar.addi v2 c4_i32_18
  let v24 : BitVec 32 := Scalar.addi v23 c0_i32_19
  let c4_i32_20 : BitVec 32 := 4#32
  let v25 : BitVec 32 := Scalar.remsi v24 c4_i32_20
  let c512_i32_21 : BitVec 32 := 512#32
  let v26 : BitVec 32 := Scalar.muli v25 c512_i32_21
  let c256_i32 : BitVec 32 := 256#32
  let v27 : BitVec 32 := Scalar.addi v26 c256_i32
  let v105 : Index := Scalar.indexCast v27
  let c0_94 : Index := 0#32
  ![v105.toNat, 0]
def k0_off5_at (r : Fin 4) : BitVec 32 :=
  if r.val < 2 then
    if r.val < 1 then
      0#32
    else
      1#32
  else
    if r.val < 3 then
      2#32
    else
      4294967295#32
def k0_off6 (d0 : Dev nD) (c0_i32_19 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_18 : BitVec 32 := 4#32
  let v23 : BitVec 32 := Scalar.addi v2 c4_i32_18
  let v24 : BitVec 32 := Scalar.addi v23 c0_i32_19
  let c4_i32_20 : BitVec 32 := 4#32
  let v25 : BitVec 32 := Scalar.remsi v24 c4_i32_20
  let c512_i32_21 : BitVec 32 := 512#32
  let v26 : BitVec 32 := Scalar.muli v25 c512_i32_21
  let c256_i32 : BitVec 32 := 256#32
  let v27 : BitVec 32 := Scalar.addi v26 c256_i32
  let c0_i32_109 : BitVec 32 := 0#32
  ![v27.toNat, 0]
def k0_off6_at (r : Fin 4) : BitVec 32 :=
  if r.val < 2 then
    if r.val < 1 then
      0#32
    else
      1#32
  else
    if r.val < 3 then
      2#32
    else
      4294967295#32
def k0_dev5 (d0 : Dev nD) : Nat :=
  let c0_i32_106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v6 : BitVec 32 := Scalar.addi v2 c4_i32_2
  let c1_i32_3 : BitVec 32 := 1#32
  let v7 : BitVec 32 := Scalar.addi v6 c1_i32_3
  let c4_i32_4 : BitVec 32 := 4#32
  let v8 : BitVec 32 := Scalar.remsi v7 c4_i32_4
  let c1_i32_105 : BitVec 32 := 1#32
  let v114 : BitVec 32 := Scalar.muli v8 c1_i32_105
  let v115 : BitVec 32 := Scalar.addi c0_i32_106 v114
  v115.toNat
def k0_dev6 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_5 : BitVec 32 := 4#32
  let v9 : BitVec 32 := Scalar.addi v2 c4_i32_5
  let c2_i32 : BitVec 32 := 2#32
  let v10 : BitVec 32 := Scalar.addi v9 c2_i32
  let c4_i32_6 : BitVec 32 := 4#32
  let v11 : BitVec 32 := Scalar.remsi v10 c4_i32_6
  let c1_i32_132 : BitVec 32 := 1#32
  let v143 : BitVec 32 := Scalar.muli v11 c1_i32_132
  let v144 : BitVec 32 := Scalar.addi c0_i32_133 v143
  v144.toNat
def k0_dev7 (d0 : Dev nD) : Nat :=
  let c0_i32_160 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_5 : BitVec 32 := 4#32
  let v9 : BitVec 32 := Scalar.addi v2 c4_i32_5
  let c2_i32 : BitVec 32 := 2#32
  let v10 : BitVec 32 := Scalar.addi v9 c2_i32
  let c4_i32_6 : BitVec 32 := 4#32
  let v11 : BitVec 32 := Scalar.remsi v10 c4_i32_6
  let c1_i32_159 : BitVec 32 := 1#32
  let v172 : BitVec 32 := Scalar.muli v11 c1_i32_159
  let v173 : BitVec 32 := Scalar.addi c0_i32_160 v172
  v173.toNat
def k0_dev8 (d0 : Dev nD) : Nat :=
  let c0_i32_187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v6 : BitVec 32 := Scalar.addi v2 c4_i32_2
  let c1_i32_3 : BitVec 32 := 1#32
  let v7 : BitVec 32 := Scalar.addi v6 c1_i32_3
  let c4_i32_4 : BitVec 32 := 4#32
  let v8 : BitVec 32 := Scalar.remsi v7 c4_i32_4
  let c1_i32_186 : BitVec 32 := 1#32
  let v201 : BitVec 32 := Scalar.muli v8 c1_i32_186
  let v202 : BitVec 32 := Scalar.addi c0_i32_187 v201
  v202.toNat
def k0_dev9 (d0 : Dev nD) : Nat :=
  let c0_i32_213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c_m1_i32 : BitVec 32 := 4294967295#32
  let v4 : BitVec 32 := Scalar.addi v3 c_m1_i32
  let c4_i32_1 : BitVec 32 := 4#32
  let v5 : BitVec 32 := Scalar.remsi v4 c4_i32_1
  let c1_i32_212 : BitVec 32 := 1#32
  let v230 : BitVec 32 := Scalar.muli v5 c1_i32_212
  let v231 : BitVec 32 := Scalar.addi c0_i32_213 v230
  v231.toNat
def k0_dev10 (d0 : Dev nD) : Nat :=
  let c0_i32_378 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c_m1_i32 : BitVec 32 := 4294967295#32
  let v4 : BitVec 32 := Scalar.addi v3 c_m1_i32
  let c4_i32_1 : BitVec 32 := 4#32
  let v5 : BitVec 32 := Scalar.remsi v4 c4_i32_1
  let c1_i32_377 : BitVec 32 := 1#32
  let v401 : BitVec 32 := Scalar.muli v5 c1_i32_377
  let v402 : BitVec 32 := Scalar.addi c0_i32_378 v401
  v402.toNat
def k0_dev11 (d0 : Dev nD) : Nat :=
  let c0_i32_381 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v6 : BitVec 32 := Scalar.addi v2 c4_i32_2
  let c1_i32_3 : BitVec 32 := 1#32
  let v7 : BitVec 32 := Scalar.addi v6 c1_i32_3
  let c4_i32_4 : BitVec 32 := 4#32
  let v8 : BitVec 32 := Scalar.remsi v7 c4_i32_4
  let c1_i32_380 : BitVec 32 := 1#32
  let v403 : BitVec 32 := Scalar.muli v8 c1_i32_380
  let v404 : BitVec 32 := Scalar.addi c0_i32_381 v403
  v404.toNat
def k0_dev12 (d0 : Dev nD) : Nat :=
  let c0_i32_384 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_5 : BitVec 32 := 4#32
  let v9 : BitVec 32 := Scalar.addi v2 c4_i32_5
  let c2_i32 : BitVec 32 := 2#32
  let v10 : BitVec 32 := Scalar.addi v9 c2_i32
  let c4_i32_6 : BitVec 32 := 4#32
  let v11 : BitVec 32 := Scalar.remsi v10 c4_i32_6
  let c1_i32_383 : BitVec 32 := 1#32
  let v405 : BitVec 32 := Scalar.muli v11 c1_i32_383
  let v406 : BitVec 32 := Scalar.addi c0_i32_384 v405
  v406.toNat
def k0_dev13 (d0 : Dev nD) : Nat :=
  let c0_i32_397 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c_m1_i32 : BitVec 32 := 4294967295#32
  let v4 : BitVec 32 := Scalar.addi v3 c_m1_i32
  let c4_i32_1 : BitVec 32 := 4#32
  let v5 : BitVec 32 := Scalar.remsi v4 c4_i32_1
  let c1_i32_396 : BitVec 32 := 1#32
  let v411 : BitVec 32 := Scalar.muli v5 c1_i32_396
  let v412 : BitVec 32 := Scalar.addi c0_i32_397 v411
  v412.toNat
def k0_dev14 (d0 : Dev nD) : Nat :=
  let c0_i32_411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v6 : BitVec 32 := Scalar.addi v2 c4_i32_2
  let c1_i32_3 : BitVec 32 := 1#32
  let v7 : BitVec 32 := Scalar.addi v6 c1_i32_3
  let c4_i32_4 : BitVec 32 := 4#32
  let v8 : BitVec 32 := Scalar.remsi v7 c4_i32_4
  let c1_i32_410 : BitVec 32 := 1#32
  let v424 : BitVec 32 := Scalar.muli v8 c1_i32_410
  let v425 : BitVec 32 := Scalar.addi c0_i32_411 v424
  v425.toNat
def k0_dev15 (d0 : Dev nD) : Nat :=
  let c0_i32_425 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_5 : BitVec 32 := 4#32
  let v9 : BitVec 32 := Scalar.addi v2 c4_i32_5
  let c2_i32 : BitVec 32 := 2#32
  let v10 : BitVec 32 := Scalar.addi v9 c2_i32
  let c4_i32_6 : BitVec 32 := 4#32
  let v11 : BitVec 32 := Scalar.remsi v10 c4_i32_6
  let c1_i32_424 : BitVec 32 := 1#32
  let v437 : BitVec 32 := Scalar.muli v11 c1_i32_424
  let v438 : BitVec 32 := Scalar.addi c0_i32_425 v437
  v438.toNat
def k0_dev16 (d0 : Dev nD) : Nat :=
  let c0_i32_440 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c_m1_i32 : BitVec 32 := 4294967295#32
  let v4 : BitVec 32 := Scalar.addi v3 c_m1_i32
  let c4_i32_1 : BitVec 32 := 4#32
  let v5 : BitVec 32 := Scalar.remsi v4 c4_i32_1
  let c1_i32_439 : BitVec 32 := 1#32
  let v451 : BitVec 32 := Scalar.muli v5 c1_i32_439
  let v452 : BitVec 32 := Scalar.addi c0_i32_440 v451
  v452.toNat
def k0_dev17 (d0 : Dev nD) : Nat :=
  let c0_i32_455 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v6 : BitVec 32 := Scalar.addi v2 c4_i32_2
  let c1_i32_3 : BitVec 32 := 1#32
  let v7 : BitVec 32 := Scalar.addi v6 c1_i32_3
  let c4_i32_4 : BitVec 32 := 4#32
  let v8 : BitVec 32 := Scalar.remsi v7 c4_i32_4
  let c1_i32_454 : BitVec 32 := 1#32
  let v465 : BitVec 32 := Scalar.muli v8 c1_i32_454
  let v466 : BitVec 32 := Scalar.addi c0_i32_455 v465
  v466.toNat
def k0_dev18 (d0 : Dev nD) : Nat :=
  let c0_i32_470 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_5 : BitVec 32 := 4#32
  let v9 : BitVec 32 := Scalar.addi v2 c4_i32_5
  let c2_i32 : BitVec 32 := 2#32
  let v10 : BitVec 32 := Scalar.addi v9 c2_i32
  let c4_i32_6 : BitVec 32 := 4#32
  let v11 : BitVec 32 := Scalar.remsi v10 c4_i32_6
  let c1_i32_469 : BitVec 32 := 1#32
  let v479 : BitVec 32 := Scalar.muli v11 c1_i32_469
  let v480 : BitVec 32 := Scalar.addi c0_i32_470 v479
  v480.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x4096 : Shape := ⟨2, ![2048, 4096]⟩
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Cells.lean ====
/- The protocol's vocabulary: which device a slot is filled from and to, the rows each access of the kernel
   goes to, the memrefs the transfers go between, and the semaphore cells. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.MemrefSat
public import Idealize.ShloMosaic.Lib.Tactic

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.Sem
open Cert.KernelIdeal Cert.KernelIdeal.Gen

/-! ## Devices -/

/-- The device `k` places after `c` on the ring of four. -/
def dv (k : ℕ) (c : Dev nD) : Dev nD := ⟨(c.val + k) % 4, Nat.mod_lt _ (by decide)⟩

/-- How far ahead of a device the device is whose slot `p` it fills: its right, its left, its diagonal neighbour. -/
def ahead (p : Fin 3) : ℕ := match p with | 0 => 1 | 1 => 3 | 2 => 2
/-- How far ahead of a device the device is that fills its slot `p`. -/
def behind (p : Fin 3) : ℕ := match p with | 0 => 3 | 1 => 1 | 2 => 2

/-- The device whose slot `p` device `c` fills. -/
def tgt (p : Fin 3) (c : Dev nD) : Dev nD := dv (ahead p) c
/-- The device that fills slot `p` of device `c`. -/
def src (p : Fin 3) (c : Dev nD) : Dev nD := dv (behind p) c

/-- The neighbour that device `c` fills slot `p` of is, seen from there, filled by `c`. -/
theorem src_tgt (p : Fin 3) (c : Dev nD) : src p (tgt p c) = c := by revert p c; decide
/-- The neighbour that fills slot `p` of device `c` fills, of all devices' slots `p`, that of `c`. -/
theorem tgt_src (p : Fin 3) (c : Dev nD) : tgt p (src p c) = c := by revert p c; decide

/-! ## Rows -/

/-- The word the kernel adds to its id for the chunk `k` places ahead. -/
def word (k : Fin 4) : BitVec 32 := match k with | 0 => 0#32 | 1 => 1#32 | 2 => 2#32 | 3 => 4294967295#32

/-- The first element of the rows of half `h` of the chunk `k` places ahead of device `c`, in a 2048 × 2048 array. -/
def offP (h : Bool) (c : Dev nD) (k : Fin 4) : Fin 2 → ℕ := match h with | false => k0_off4 c (word k) | true => k0_off6 c (word k)
/-- The same in the device's 2048 × 1024 block. -/
def offA (h : Bool) (c : Dev nD) (k : Fin 4) : Fin 2 → ℕ := match h with | false => k0_off1 c (word k) | true => k0_off2 c (word k)

/-- The number of the chunk `k` places ahead of device `c`. -/
def chunk (c : Dev nD) (k : Fin 4) : ℕ := (c.val + k.val) % 4
/-- The row a half of a chunk begins at. -/
def rowOf (j : ℕ) (h : Bool) : ℕ := 512 * j + (if h then 256 else 0)

/-- Where a piece of the result starts: at its chunk's half, at column 0. -/
theorem offP_eq (h : Bool) (c : Dev nD) (k : Fin 4) : offP h c k = ![rowOf (chunk c k) h, 0] := by revert h c k; decide +kernel
/-- Where a tile of `A` starts: at its chunk's half, at column 0. -/
theorem offA_eq (h : Bool) (c : Dev nD) (k : Fin 4) : offA h c k = ![rowOf (chunk c k) h, 0] := by revert h c k; decide +kernel

/-- There are four chunks. -/
theorem chunk_lt (c : Dev nD) (k : Fin 4) : chunk c k < 4 := Nat.mod_lt _ (by decide)
/-- A half of a chunk lies within the 2048 rows. -/
theorem rowOf_le (j : ℕ) (hj : j < 4) (h : Bool) : rowOf j h + 256 ≤ 2048 := by unfold rowOf; split <;> omega

/-- A piece of the result lies within the result. -/
theorem offP_inb (h : Bool) (c : Dev nD) (k : Fin 4) : ∀ a, offP h c k a + S256x2048.size a ≤ S2048x2048.size a := by
  rw [offP_eq]
  have := rowOf_le (chunk c k) (chunk_lt c k) h
  exact Fin.forall_fin_two.2 ⟨this, by decide +revert⟩
/-- A tile of `A` lies within `A`'s block. -/
theorem offA_inb (h : Bool) (c : Dev nD) (k : Fin 4) : ∀ a, offA h c k a + S256x1024.size a ≤ S2048x1024.size a := by
  rw [offA_eq]
  have := rowOf_le (chunk c k) (chunk_lt c k) h
  exact Fin.forall_fin_two.2 ⟨this, by decide +revert⟩

/-! ## Memrefs -/

/-- The rectangle of half `h` of the chunk `k` places ahead of `c`, in a 2048 × 2048 array. -/
abbrev rectP (h : Bool) (c : Dev nD) (k : Fin 4) : Rect S2048x2048 := Rect.unit (s := S2048x2048) (offP h c k) S256x2048.size (offP_inb h c k)

/-- Those rows of the scratch array of partial products, -/
abbrev prow (h : Bool) (c : Dev nD) (k : Fin 4) : Memref sig .tc .vmem S256x2048 .bf16 :=
  (Memref.whole cc0_scratch1 : Memref sig .tc .vmem S2048x2048 .bf16).slice (rectP h c k) (fun _ => rfl)
/-- of the result's staging buffer, -/
abbrev orow (h : Bool) (c : Dev nD) (k : Fin 4) : Memref sig .tc .vmem S256x2048 .f32 :=
  (Memref.whole cc0_stg1_0 : Memref sig .tc .vmem S2048x2048 .f32).slice (rectP h c k) (fun _ => rfl)
/-- and of the device's block of the left factor. -/
abbrev arow (h : Bool) (c : Dev nD) (k : Fin 4) : Memref sig .tc .hbm S256x1024 .f32 :=
  (Memref.whole main_arg0 : Memref sig .tc .hbm S2048x1024 .f32).slice (Rect.unit (s := S2048x1024) (offA h c k) S256x1024.size (offA_inb h c k)) (fun _ => rfl)

/-- A receive slot lies within the receive buffer. -/
theorem slot_inb (p : Fin 3) (h : Bool) : ∀ a, (![p.val, h.toNat, 0, 0] : Fin 4 → ℕ) a + S1x1x256x2048.size a ≤ S3x2x256x2048.size a := by
  revert p h; decide
/-- A tile slot lies within the tile buffer. -/
theorem tile_inb (s : Fin 2) : ∀ a, (![s.val, 0, 0] : Fin 3 → ℕ) a + S1x256x1024.size a ≤ S2x256x1024.size a := by revert s; decide

/-- Where slot `p`, half `h` lies in the receive buffer. -/
abbrev slotRect (p : Fin 3) (h : Bool) : Rect S3x2x256x2048 := Rect.unit (s := S3x2x256x2048) ![p.val, h.toNat, 0, 0] S1x1x256x2048.size (slot_inb p h)
/-- Where tile slot `s` lies in the tile buffer. -/
abbrev tileRect (s : Fin 2) : Rect S2x256x1024 := Rect.unit (s := S2x256x1024) ![s.val, 0, 0] S1x256x1024.size (tile_inb s)

/-- Receive slot `p`, half `h`. -/
abbrev slot (p : Fin 3) (h : Bool) : Memref sig .tc .vmem S256x2048 .bf16 :=
  ((Memref.whole cc0_scratch2 : Memref sig .tc .vmem S3x2x256x2048 .bf16).slice (slotRect p h) (fun _ => rfl)).squeeze S256x2048 squeezes_S1x1x256x2048_S256x2048
/-- Fetch slot `s`. -/
abbrev tile (s : Fin 2) : Memref sig .tc .vmem S256x1024 .f32 :=
  ((Memref.whole cc0_scratch0 : Memref sig .tc .vmem S2x256x1024 .f32).slice (tileRect s) (fun _ => rfl)).squeeze S256x1024 squeezes_S1x256x1024_S256x1024

/-- What a transfer of 256 × 2048 bf16 elements credits, -/
abbrev N : ℕ := (slot 0 false).view.dmaCredit
/-- and a fetch of 256 × 1024 f32 elements. -/
abbrev NA : ℕ := (tile 0).view.dmaCredit
/-- A remote copy credits something. -/
theorem N_pos : 0 < N := View.dmaCredit_pos _ (by decide)
/-- A fetch of a tile credits something. -/
theorem NA_pos : 0 < NA := View.dmaCredit_pos _ (by decide)

/-- A copy into a receive slot credits `N`. -/
theorem credit_slot (p : Fin 3) (h : Bool) : (slot p h).view.dmaCredit = N := rfl
/-- A copy into or out of a piece of the partial buffer credits `N`. -/
theorem credit_prow (h : Bool) (c : Dev nD) (k : Fin 4) : (prow h c k).view.dmaCredit = N := rfl
/-- A copy into a tile slot credits `NA`. -/
theorem credit_tile (s : Fin 2) : (tile s).view.dmaCredit = NA := rfl

/-! ## Cells -/

/-- The cells of a device: the barrier, the acknowledgement, the fetches, and for each slot and half the send and the
    receive cell of the scatter and of the gather. -/
inductive Ck
  | bar | ack | fet (s : Fin 2) | ssc (p : Fin 3) (h : Bool) | rsc (p : Fin 3) (h : Bool) | sga (p : Fin 3) (h : Bool) | rga (p : Fin 3) (h : Bool)
deriving DecidableEq

/-- Which of the six send semaphores the transfer into slot `p`, half `h` of the scatter completes on, -/
def sIx (p : Fin 3) (h : Bool) : ℕ := match p, h with | 1, false => 0 | 0, true => 1 | 2, true => 2 | 2, false => 3 | 0, false => 4 | 1, true => 5
/-- and of the gather. -/
def gIx (p : Fin 3) (h : Bool) : ℕ := match p, h with | 1, false => 0 | 0, false => 1 | 2, false => 2 | 1, true => 3 | 0, true => 4 | 2, true => 5

/-- The scatter has six send semaphores. -/
theorem sIx_lt (p : Fin 3) (h : Bool) : sIx p h < 6 := by revert p h; decide
/-- The gather has six send semaphores. -/
theorem gIx_lt (p : Fin 3) (h : Bool) : gIx p h < 6 := by revert p h; decide

/-- A cell's semaphore. -/
def semOf : Ck → SemLoc sig
  | .bar => .reg (1 : Fin 2)
  | .ack => .reg (0 : Fin 2)
  | .fet s => .dma (⟨2 + s.val, by have := s.isLt; show _ < 28; omega⟩ : Fin 28)
  | .ssc p h => .dma (⟨4 + sIx p h, by have := sIx_lt p h; show _ < 28; omega⟩ : Fin 28)
  | .rsc p h => .dma (⟨10 + 2 * p.val + h.toNat, by have := p.isLt; have := h.toNat_lt; show _ < 28; omega⟩ : Fin 28)
  | .sga p h => .dma (⟨16 + gIx p h, by have := gIx_lt p h; show _ < 28; omega⟩ : Fin 28)
  | .rga p h => .dma (⟨22 + 2 * p.val + h.toNat, by have := p.isLt; have := h.toNat_lt; show _ < 28; omega⟩ : Fin 28)

/-- The cells, listed. -/
def allCk : List Ck :=
  [.bar, .ack, .fet 0, .fet 1,
   .ssc 0 false, .ssc 0 true, .ssc 1 false, .ssc 1 true, .ssc 2 false, .ssc 2 true,
   .rsc 0 false, .rsc 0 true, .rsc 1 false, .rsc 1 true, .rsc 2 false, .rsc 2 true,
   .sga 0 false, .sga 0 true, .sga 1 false, .sga 1 true, .sga 2 false, .sga 2 true,
   .rga 0 false, .rga 0 true, .rga 1 false, .rga 1 true, .rga 2 false, .rga 2 true]

/-- The list of the kinds of cells is complete. -/
theorem mem_allCk (k : Ck) : k ∈ allCk := by
  cases k with
  | bar => decide
  | ack => decide
  | fet s => revert s; decide
  | ssc p h => revert p h; decide
  | rsc p h => revert p h; decide
  | sga p h => revert p h; decide
  | rga p h => revert p h; decide

/-- There are finitely many kinds of cells. -/
instance : Fintype Ck := ⟨⟨allCk, by decide⟩, mem_allCk⟩

/-- Which cell a semaphore is. -/
def kindOf (s : SemLoc sig) : Option Ck := allCk.find? fun k => decide (semOf k = s)

/-- A cell's semaphore tells which cell it is. -/
theorem kindOf_semOf (k : Ck) : kindOf (semOf k) = some k := by revert k; decide +kernel
/-- Different cells have different semaphores. -/
theorem semOf_inj : Function.Injective semOf := fun a b h => by
  have := kindOf_semOf a
  rw [h, kindOf_semOf b] at this
  exact (Option.some.inj this).symm

/-- Cell `k` of device `c`. -/
abbrev cell (c : Dev nD) (k : Ck) : GSem nD τ sig := ((c : Thread nD τ), semOf k)

/-- A cell is one device's, and one kind's. -/
theorem cell_inj {c c' : Dev nD} {k k' : Ck} (h : cell c k = cell c' k') : c = c' ∧ k = k' :=
  ⟨congrArg (fun g : GSem nD τ sig => g.1.1) h, semOf_inj (congrArg Prod.snd h)⟩

/-! ## What each cell expects -/

/-- How many rounds a cell has. -/
def rounds : Ck → ℕ | .fet _ => 4 | _ => 1
/-- Who contributes to a round: a barrier or acknowledgement round has one contribution per slot, any other round one. -/
def parts : Ck → Finset (Fin 3) | .bar => Finset.univ | .ack => Finset.univ | _ => {0}
/-- The units of one contribution. -/
def amt : Ck → ℕ | .bar => 1 | .ack => 1 | .fet _ => NA | _ => N
/-- The units of a whole round. -/
def tot : Ck → ℕ | .bar => 3 | .ack => 3 | .fet _ => NA | _ => N
/-- The order the cells are waited for in: a device waits for a cell owing only to cells above it. -/
def lvl : Ck → ℕ | .bar => 1 | .rsc _ _ => 2 | .ack => 3 | .rga _ _ => 4 | _ => 0

/-- Every contribution is of at least one unit. -/
theorem amt_pos (k : Ck) : 0 < amt k := by
  cases k <;> first | exact Nat.one_pos | exact N_pos | exact NA_pos
/-- A round's total is the sum of its contributions. -/
theorem tot_eq (k : Ck) : ∑ _d ∈ parts k, amt k = tot k := by
  cases k <;> first | rfl | exact Finset.sum_singleton _ _

/-! ## Which chunk goes where -/

/-- The chunk, counted from the sender, that the scatter sends into slot `p`, half `h`, -/
def sOff (p : Fin 3) (h : Bool) : Fin 4 := match p, h with | 0, false => 2 | 1, false => 0 | 2, false => 3 | 0, true => 0 | 1, true => 2 | 2, true => 1
/-- the chunk, counted from the receiver, that the gather brings into it, -/
def gOff (p : Fin 3) (h : Bool) : Fin 4 := match p, h with | 0, false => 0 | 1, false => 2 | 2, false => 3 | 0, true => 2 | 1, true => 0 | 2, true => 1
/-- and the chunk of half `h` a device sums. -/
def own (h : Bool) : Fin 4 := match h with | false => 1 | true => 3

/-- The half and the chunk of the `r`-th fetch into fetch slot `s`. -/
def fHalf (s : Fin 2) (r : ℕ) : Bool := match s with | 0 => r == 1 | 1 => !(r == 1)
/-- The chunk, counted from the device's own number, that the `r`-th fetch into tile slot `s` brings. -/
def fOff (s : Fin 2) (r : ℕ) : Fin 4 := match s, r with | 0, 0 => 0 | 0, 1 => 1 | 0, 2 => 2 | 0, _ => 1 | 1, 0 => 0 | 1, 1 => 3 | 1, 2 => 2 | 1, _ => 3

/-- What the peer behind slot `p` sends in the scatter is the chunk that device `c` sums. -/
theorem chunk_src (p : Fin 3) (h : Bool) (c : Dev nD) : chunk (src p c) (sOff p h) = chunk c (own h) := by revert p h c; decide
/-- What arrives by slot `p` in the gather is the chunk that the peer behind it has summed. -/
theorem chunk_gat (p : Fin 3) (h : Bool) (c : Dev nD) : chunk c (gOff p h) = chunk (src p c) (own h) := by revert p h c; decide

/-! ## Values -/

section Values

variable {F : FTy → Type} [FloatOps F]

/-- The product of 256 rows with the right factor, as stored. -/
def prodOf (X : Vec F S256x1024 .f32) (B : Vec F S1024x2048 .f32) : Vec F S256x2048 .bf16 :=
  shapeCast S256x2048 (truncf .bf16 (matmul dot_S256x1024_S1024x2048_S256x2048_1_0_0_1_n_n none X (shapeCast S1024x2048 B shapeCasts_S1024x2048_S1024x2048 : FVec F S1024x2048 .f32)
    (constant S256x2048 .f32 0x00000000#32 : FVec F S256x2048 .f32)) bitsLt_bf16_f32 : FVec F S256x2048 .bf16) shapeCasts_S256x2048_S256x2048

/-- A transferred block widened. -/
def widen (X : Vec F S256x2048 .bf16) : Vec F S256x2048 .f32 := extf .f32 (X : FVec F S256x2048 .bf16) bitsLt_bf16_f32
/-- A summed block narrowed for the transfer. -/
def narrow (X : Vec F S256x2048 .f32) : Vec F S256x2048 .bf16 :=
  shapeCast S256x2048 (truncf .bf16 (shapeCast S256x2048 X shapeCasts_S256x2048_S256x2048 : FVec F S256x2048 .f32) bitsLt_bf16_f32 : FVec F S256x2048 .bf16) shapeCasts_S256x2048_S256x2048
/-- The device's own partial product and the three it received, summed and rectified. -/
def sumOf (P L R D : Vec F S256x2048 .bf16) : Vec F S256x2048 .f32 :=
  maximumf (addf (addf (addf (widen P : FVec F S256x2048 .f32) (widen L)) (widen R)) (widen D)) (broadcast S256x2048 (Scalar.ofBits .f32 0x00000000#32 : F .f32))

/-- The printed product of a tile is `prodOf` of the tile's two-dimensional contents. -/
theorem pay1_eq (v : Vec F S1x256x1024 .f32) (B : Vec F S1024x2048 .f32) (X : Vec F S256x1024 .f32)
    (h : (shapeCast S256x1024 v shapeCasts_S1x256x1024_S256x1024 : FVec F S256x1024 .f32) = X) : k0_pay1 v B = prodOf X B := by subst h; rfl
/-- The printed sum of the own partial product and the three received ones, with the maximum against 0. -/
theorem pay9_eq (P : Vec F S256x2048 .bf16) (l r d : Vec F S1x1x256x2048 .bf16) (L R D : Vec F S256x2048 .bf16)
    (hl : (shapeCast S256x2048 l shapeCasts_S1x1x256x2048_S256x2048 : FVec F S256x2048 .bf16) = L)
    (hr : (shapeCast S256x2048 r shapeCasts_S1x1x256x2048_S256x2048 : FVec F S256x2048 .bf16) = R)
    (hd : (shapeCast S256x2048 d shapeCasts_S1x1x256x2048_S256x2048 : FVec F S256x2048 .bf16) = D) : k0_pay9 P l r d = sumOf P L R D := by subst hl hr hd; rfl
/-- The printed rounding of the summed chunk before the gather. -/
theorem pay11_eq (X : Vec F S256x2048 .f32) : k0_pay11 X = narrow X := rfl
/-- The printed widening of a received chunk. -/
theorem pay13_eq (l : Vec F S1x1x256x2048 .bf16) (L : Vec F S256x2048 .bf16)
    (hl : (shapeCast S256x2048 l shapeCasts_S1x1x256x2048_S256x2048 : FVec F S256x2048 .bf16) = L) : k0_pay13 l = widen L := by subst hl; rfl

variable (m : (ℓ : Loc nD τ sig) → Buf (Elt F) ℓ)

/-- The rows of half `h` of the chunk `k` places ahead, of device `c`'s block of the left factor. -/
def av (c : Dev nD) (h : Bool) (k : Fin 4) : Vec F S256x1024 .f32 := (arow h c k).view.read (Elt F) (m ((c : Thread nD τ).loc main_arg0))
/-- Device `c`'s block of the right factor. -/
def bv (c : Dev nD) : (cc0_stg0_0 : Ref sig .tc).ty.Contents (Elt F) := (win0_0.blk (0 : Fin 1)).view.read (Elt F) (m ((c : Thread nD τ).loc main_arg1))
/-- The partial product of those rows. -/
def pv (c : Dev nD) (h : Bool) (k : Fin 4) : Vec F S256x2048 .bf16 := prodOf (av m c h k) (bv m c)
/-- What device `c` sums for half `h` of its chunk. -/
def sv (c : Dev nD) (h : Bool) : Vec F S256x2048 .f32 :=
  sumOf (pv m c h (own h)) (pv m (src 0 c) h (sOff 0 h)) (pv m (src 1 c) h (sOff 1 h)) (pv m (src 2 c) h (sOff 2 h))
/-- The same narrowed. -/
def tv (c : Dev nD) (h : Bool) : Vec F S256x2048 .bf16 := narrow (sv m c h)

end Values

end Cert.Mesh

end
-- ==== Proof.Sched.lean ====
/- The schedule: what every contribution to every cell hands over, in tables; what a device owes and in which
   order it pays; what a device may wait for while it owes. -/
module

public import proofs.«01_k».proof.Proof.Cells

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The kernel's own rounds, contributions named by the slot they are for. -/
abbrev UB : Type := URounds (GSem nD τ sig) (Fin 3)
/-- The ghost state: the pipeline's rounds and the schedule's. -/
abbrev UU : Type := UR sig nD τ × UB

local notation "𝕄" => MT nD τ sig Unit (Elt F) ℕ UU ℕ

/-- The pipeline's part of it. -/
abbrev EP : Emb (UR sig nD τ) (MT nD τ sig Unit (Elt F) ℕ UU ℕ) := embL
/-- The schedule's part of it. -/
abbrev ER : Emb UB (MT nD τ sig Unit (Elt F) ℕ UU ℕ) := embR

variable (m : (ℓ : Loc nD τ sig) → Buf (Elt F) ℓ)

/-- Memref `x` of device `c`, held whole, reading `X`. -/
abbrev has {σ : Space} {s : Shape} {e : EltTy} (c : Dev nD) (x : Memref sig .tc σ s e) (X : s.Idx → Elt F e) : sProp 𝕄 :=
  owns (Ix := Unit) (Name := ℕ) (U := UU) (Lvl := ℕ) (c : Thread nD τ) x fullShare X

/-- Receive slot `p` of device `c`, both halves, at any contents. -/
def room (p : Fin 3) (c : Dev nD) : sProp 𝕄 := iprop((∃ X, has c (slot p false) X) ∗ ∃ X, has c (slot p true) X)

/-- The share of the left factor a fetch slot reads at. -/
def fsh (s : Fin 2) : PosShare TreeShare := match s with | 0 => fullShare.left | 1 => fullShare.right
/-- The share of its own chunk a gather transfer reads at. -/
def gsh (p : Fin 3) : PosShare TreeShare := match p with | 0 => fullShare.left | 1 => fullShare.right.left | 2 => fullShare.right.right

/-- The rows of the left factor, at a fetch slot's share. -/
def rowsA (s : Fin 2) (c : Dev nD) (h : Bool) (k : Fin 4) : sProp 𝕄 :=
  (arow h c k).view.loc (c : Thread nD τ) ↦[(arow h c k).view.set]{fsh s} m ((c : Thread nD τ).loc main_arg0)

/-- What contribution `d` to round `r` of cell `k` hands device `c`. -/
def pay (c : Dev nD) (k : Ck) (r : ℕ) (d : Fin 3) : sProp 𝕄 :=
  match k with
  | .bar => room d (tgt d c)
  | .ack => room d (tgt d c)
  | .fet s => iprop(rowsA m s c (fHalf s r) (fOff s r) ∗ has c (tile s) (av m c (fHalf s r) (fOff s r)))
  | .ssc p h => has c (prow h c (sOff p h)) (pv m c h (sOff p h))
  | .rsc p h => has c (slot p h) (pv m (src p c) h (sOff p h))
  | .sga p h => owns (c : Thread nD τ) (prow h c (own h)) (gsh p) (tv m c h)
  | .rga p h => has c (slot p h) (tv m (src p c) h)

/-- A payload may be kept in an invariant. -/
instance pay_storable (c : Dev nD) (k : Ck) (r : ℕ) (d : Fin 3) : BI.Storable (upEmb : UEmb _ 𝕄) (pay m c k r d) := by
  cases k <;> (dsimp only [pay, has]; first | (unfold room has; infer_instance) | (unfold rowsA; infer_instance) | infer_instance)

/-- The schedule, by cell. -/
def rd : Rounds.Schedule (GSem nD τ sig) (Fin 3) 𝕄 where
  duties g r := if g.1.2 = .tc then (match kindOf g.2 with | some k => if r < rounds k then parts k else ∅ | none => ∅) else ∅
  unitless _ := False
  amount g _ _ := match kindOf g.2 with | some k => amt k | none => 1
  payload g r d := match kindOf g.2 with | some k => pay m g.1.1 k r d | none => iprop(emp)
  amount_pos g r d _ := by
    cases h : kindOf g.2 with
    | none => exact Nat.one_pos
    | some k => exact amt_pos k

/-- So may the payload of any contribution of the schedule. -/
instance rd_storable (g : GSem nD τ sig) (r : ℕ) (d : Fin 3) : BI.Storable (upEmb : UEmb _ 𝕄) ((rd (F := F) m).payload g r d) := by
  show BI.Storable upEmb (match kindOf g.2 with | some k => pay m g.1.1 k r d | none => iprop(emp))
  cases kindOf g.2 <;> infer_instance

section Tables
variable (c : Dev nD) (k : Ck) (r : ℕ) (d : Fin 3)

/-- A round of a cell has the cell's contributions, -/
theorem rd_duties (hr : r < rounds k) : (rd m).duties (cell c k) r = parts k := by
  show (if (cell c k).1.2 = .tc then (match kindOf (semOf k) with | some k => if r < rounds k then parts k else ∅ | none => ∅) else ∅) = _
  rw [kindOf_semOf, if_pos rfl]; exact if_pos hr
/-- and past the last round there are none. -/
theorem rd_later (hr : rounds k ≤ r) : (rd m).duties (cell c k) r = ∅ := by
  show (if (cell c k).1.2 = .tc then (match kindOf (semOf k) with | some k => if r < rounds k then parts k else ∅ | none => ∅) else ∅) = _
  rw [kindOf_semOf, if_pos rfl]; exact if_neg (by omega)
/-- The amount of a contribution, -/
theorem rd_amount : (rd m).amount (cell c k) r d = amt k := by
  show (match kindOf (semOf k) with | some k => amt k | none => 1) = _
  rw [kindOf_semOf]
/-- what it hands over, -/
theorem rd_payload : (rd m).payload (cell c k) r d = pay m c k r d := by
  show (match kindOf (semOf k) with | some k => pay m c k r d | none => iprop(emp)) = _
  rw [kindOf_semOf]
/-- and the total of a round. -/
theorem rd_expect (hr : r < rounds k) : (rd m).expect (cell c k) r = tot k := by
  unfold Schedule.expect Schedule.amountOf
  rw [rd_duties m c k r hr, Finset.sum_congr rfl fun d _ => rd_amount m c k r d, tot_eq]
/-- Before any contribution was taken, a whole round's payloads are left. -/
theorem rd_rest (hr : r < rounds k) :
    bigSep ((rd m).duties (cell c k) r \ ∅) (fun d => (rd m).payload (cell c k) r d) = bigSep (parts k) (pay m c k r) := by
  rw [Finset.sdiff_empty, rd_duties m c k r hr]
  exact congrArg _ (funext fun d => rd_payload m c k r d)

end Tables

/-! ## Debts and levels -/

/-- A list of contributions owed, as tallies: the head is paid next. -/
def owe (l : List (Dev nD × Ck)) : CellTallies nD τ sig Unit := l.foldr (fun x acc => acc + tallyAt (cell x.1 x.2) () (amt x.2)) 0

/-- What a list of debts owes is what its first owes and the rest. -/
theorem owe_cons (x : Dev nD × Ck) (l : List (Dev nD × Ck)) : owe (x :: l) = owe l + tallyAt (cell x.1 x.2) () (amt x.2) := rfl

/-- What is owed is owed to a cell of the list. -/
theorem owe_pos {l : List (Dev nD × Ck)} {g : GSem nD τ sig} {u : Unit} (h : 0 < owe l g u) : ∃ x ∈ l, g = cell x.1 x.2 := by
  induction l with
  | nil => exact absurd h (Nat.lt_irrefl 0)
  | cons x l ih =>
    rw [owe_cons, Pi.add_apply, Finsupp.add_apply, tallyAt_apply] at h
    by_cases hx : g = cell x.1 x.2 ∧ u = ()
    · exact ⟨x, List.mem_cons_self, hx.1⟩
    · rw [if_neg hx, Nat.add_zero] at h
      obtain ⟨y, hy, e⟩ := ih h
      exact ⟨y, List.mem_cons_of_mem _ hy, e⟩

/-- Everything device `c` owes, in the order the kernel pays it: the three barrier signals, the six scatter transfers,
    the three acknowledgements, the six gather transfers. -/
def debts (c : Dev nD) : List (Dev nD × Ck) :=
  [(src 0 c, .bar), (src 1 c, .bar), (src 2 c, .bar),
   (tgt 1 c, .rsc 1 false), (tgt 0 c, .rsc 0 true), (tgt 2 c, .rsc 2 true), (tgt 2 c, .rsc 2 false), (tgt 0 c, .rsc 0 false), (tgt 1 c, .rsc 1 true),
   (src 0 c, .ack), (src 1 c, .ack), (src 2 c, .ack),
   (tgt 1 c, .rga 1 false), (tgt 0 c, .rga 0 false), (tgt 2 c, .rga 2 false), (tgt 1 c, .rga 1 true), (tgt 0 c, .rga 0 true), (tgt 2 c, .rga 2 true)]

/-- What is left of it after `n` payments. -/
def debtsAt (c : Dev nD) (n : ℕ) : List (Dev nD × Ck) := (debts c).drop n

/-- Only the compute cores' semaphores have levels. -/
def L (g : GSem nD τ sig) : Finset Unit := if g.1.2 = .tc then {()} else ∅
/-- A semaphore's level is that of its cell. -/
def lv (g : GSem nD τ sig) (_ : Unit) : ℕ := match kindOf g.2 with | some k => lvl k | none => 0

/-- Off the compute cores there are no levels. -/
theorem L_of_ne (g : GSem nD τ sig) (h : g.1.2 ≠ .tc) : L g = ∅ := if_neg h
/-- On a compute core every semaphore has one. -/
theorem L_tc (c : Dev nD) (sm : SemLoc sig) : L ((c : Thread nD τ), sm) = {()} := if_pos rfl
/-- The level of a cell. -/
theorem lv_cell (c : Dev nD) (k : Ck) (u : Unit) : lv (cell c k) u = lvl k := by
  show (match kindOf (semOf k) with | some k => lvl k | none => 0) = _
  rw [kindOf_semOf]

/-- A device owing only to cells above `sm`'s level may wait on `sm`. -/
theorem mayWait_of (c : Dev nD) (sm : SemLoc sig) (n : ℕ) (hn : lv ((c : Thread nD τ), sm) () = n) (l : List (Dev nD × Ck)) (h : ∀ x ∈ l, n < lvl x.2) :
    (levAts L lv : sProp 𝕄) ⊢ MayWait (c : Thread nD τ) sm () (owe l) :=
  MayOwe.of_cut (L := L) (lev := lv) n (fun p hp => by rw [Finset.mem_singleton.mp hp, L_tc]; exact Finset.mem_singleton_self _)
    (fun g u hg => by obtain ⟨x, -, rfl⟩ := owe_pos hg; rw [L_tc]; exact Finset.mem_singleton_self _)
    (fun p hp => by rw [Finset.mem_singleton.mp hp]; exact hn.le)
    (fun g u hg => by obtain ⟨x, hx, rfl⟩ := owe_pos hg; rw [lv_cell]; exact h x hx)

/-- Device `c` owing `l`, whatever it has waited for. -/
def owing (c : Dev nD) (l : List (Dev nD × Ck)) : sProp 𝕄 := iprop(∃ W, owes (c : Thread nD τ) (owe l) W)

/-! ## The shared records -/

/-- What every device knows throughout: each cell's invariant under its name, that it has begun, and the levels. -/
def recs (K : Dev nD × Ck → ℕ) : sProp 𝕄 :=
  iprop((bigSep Finset.univ fun x : Dev nD × Ck => iprop(cellInv ER (rd m) (K x) (cell x.1 x.2) ∗ reached ER (cell x.1 x.2) 0)) ∗ levAts L lv)

/-- The records may be used more than once. -/
instance recs_persistent (K : Dev nD × Ck → ℕ) : BI.Persistent (recs m K) := by unfold recs; infer_instance

/-- One record out of them all. -/
theorem recs_at (K : Dev nD × Ck → ℕ) (c : Dev nD) (k : Ck) :
    (bigSep Finset.univ fun x : Dev nD × Ck => iprop(cellInv ER (rd m) (K x) (cell x.1 x.2) ∗ reached ER (cell x.1 x.2) 0))
      ⊢ iprop(cellInv ER (rd m) (K (c, k)) (cell c k) ∗ reached ER (cell c k) 0) :=
  bigSep_elim (Φ := fun x : Dev nD × Ck => iprop(cellInv ER (rd m) (K x) (cell x.1 x.2) ∗ reached ER (cell x.1 x.2) 0)) (Finset.mem_univ (c, k))

/-- Out of the records: the invariant of a cell, -/
theorem recs_inv (K : Dev nD × Ck → ℕ) (c : Dev nD) (k : Ck) : recs m K ⊢ cellInv ER (rd m) (K (c, k)) (cell c k) := by
  unfold recs
  iintro ⟨H, -⟩
  ihave Hx := (recs_at m K c k) $$ H
  icases Hx with ⟨Hi, -⟩
  iexact Hi
/-- that its round 0 is reached, -/
theorem recs_reached (K : Dev nD × Ck → ℕ) (c : Dev nD) (k : Ck) : recs m K ⊢ reached ER (cell c k) 0 := by
  unfold recs
  iintro ⟨H, -⟩
  ihave Hx := (recs_at m K c k) $$ H
  icases Hx with ⟨-, Hi⟩
  iexact Hi
/-- and the levels. -/
theorem recs_levs (K : Dev nD × Ck → ℕ) : recs m K ⊢ levAts L lv := by
  unfold recs
  iintro ⟨-, H⟩
  iexact H

end Cert.Mesh

end
-- ==== Proof.Steps.lean ====
/- The kernel's operations at the schedule: one rule for each kind of signal, wait, transfer, load and store. -/
module

public import proofs.«01_k».proof.Proof.Sched

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Ck → ℕ)

/-- No loop of the body needs a variant. -/
abbrev 𝒱₀ : Variants := Variants.none

/-- Device `c` runs `e` to `Q`. -/
abbrev Run (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

variable (c : Dev nD) {α : Type} {Ψ : α → sProp (MT nD τ sig Unit (Elt F) ℕ UU ℕ)}

/-! ## Signals and waits -/

/-- A cell that three neighbours signal on: the barrier or the acknowledgement. -/
def Shake (k : Ck) : Prop := k = .bar ∨ k = .ack

/-- The barrier and the acknowledgement have one round, of one unit from each of the three neighbours. -/
theorem shake_facts {k : Ck} (h : Shake k) : rounds k = 1 ∧ parts k = Finset.univ ∧ amt k = 1 ∧ tot k = 3 := by
  rcases h with rfl | rfl <;> exact ⟨rfl, rfl, rfl, rfl⟩

/-- Each of their units hands over the sender's receive slot for this device. -/
theorem pay_shake {k : Ck} (h : Shake k) (c : Dev nD) (r : ℕ) (p : Fin 3) : pay m c k r p = room p (tgt p c) := by
  rcases h with rfl | rfl <;> rfl

/-- A signal to the neighbour that fills slot `p`: it hands that slot over. -/
theorem step_signal {k : Ck} (hk : Shake k) (p : Fin 3) {n : Dev nD} (hn : n = src p c) {sem : Sem sig} (hs : SemLoc.reg sem = semOf k) {i : ℤ} (hi : i = ((1 : ℕ) : ℤ))
    {l l' : List (Dev nD × Ck)} (hl : l' = (src p c, k) :: l) {kk : PUnit → Prog (TpuEff nD τ sig (Elt F) Λ₀ .tc) α} :
    iprop(recs m K ∗ owing c l' ∗ dutyTok ER (cell (src p c) k) 0 p ∗ room p c)
      ⊢ iprop((owing c l -∗ Run c (kk ⟨⟩) Ψ) -∗ Run c (.op (.semSignal (n, .tc) sem i) kk) Ψ) := by
  subst hn hl hi
  obtain ⟨e1, e2, e3, e4⟩ := shake_facts hk
  have hsig := fun W => Rounds.wp_signal (Q := Ψ) (defs := defs₀ (F := F)) (Γ := PendingWaitsCtx.empty) 𝒱₀ ER (rd m) (c : Thread nD τ) none (dst := (src p c : Thread nD τ)) (sem := sem) (r := 0) (d := p) (k' := 1) (κ := K (src p c, k)) (k := kk)
    (Es := Set.univ) (W := W) (O₀ := owe ((src p c, k) :: l))
    (by rw [hs]; rw [rd_duties m _ k 0 (by omega), e2]; exact Finset.mem_univ _) (by rw [hs]; exact (rd_amount m _ k 0 p).trans e3) () (owe l) (by rw [owe_cons, e3, hs])
  rw [hs] at hsig
  unfold owing
  iintro ⟨#R, ⟨%W, HO⟩, Ht, Hr⟩ Hk
  iapply (hsig W) $$ [HO Ht Hr]
  · isplitr; · iapply (recs_inv m K (src p c) k); iexact R
    isplitl [HO]; · iexact HO
    isplitl [Ht]; · iexact Ht
    isplitl [Hr]; · rw [rd_payload, pay_shake m hk, tgt_src]; iexact Hr
    iapply (recs_reached m K (src p c) k); iexact R
  iintro HO
  iapply Hk
  iexists W; iexact HO

/-- A cell of one round closes behind the wait for it. -/
theorem wait_tail (k : Ck) (h1 : rounds k = 1) {l : List (Dev nD × Ck)} {W : Waits sig Unit} {e : Prog (TpuEff nD τ sig (Elt F) Λ₀ .tc) α} :
    iprop(recs m K ∗ (owing c l ∗ semVal (cell c k) 0 ∗ bigSep (parts k) (pay m c k 0) -∗ Run c e Ψ))
      ⊢ iprop((owes (c : Thread nD τ) (owe l) W ∗ atPos ER (cell c k) 1 ∅ 0 ∗ reached ER (cell c k) 1
          ∗ bigSep ((rd m).duties (cell c k) 0 \ ∅) (fun d => (rd m).payload (cell c k) 0 d)) -∗ Run c e Ψ) := by
  rw [rd_rest m c k 0 (by omega)]
  unfold owing
  iintro ⟨#R, Hk⟩ ⟨HO, Ha, -, Hp⟩
  imod (Rounds.cell_close ER (rd m) (Set.mem_univ (K (c, k))) (fun h => h) (R := 1) (g := cell c k) (fun r hr => rd_later m c k r (by omega))) $$ [Ha] with Hz
  · isplitr; · iapply (recs_inv m K c k); iexact R
    iexact Ha
  iapply Hk
  isplitl [HO]; · iexists _; iexact HO
  isplitl [Hz]; · iexact Hz
  iexact Hp

/-- What the wait for a cell of one round needs of the device: the credit and the position. -/
def due (c : Dev nD) (k : Ck) : sProp 𝕄 := iprop(cred (tallyAt (cell c k) () (tot k)) ∗ atPos ER (cell c k) 0 ∅ 0)

/-- The wait for all three neighbours' signals. -/
theorem step_shake {k : Ck} (hk : Shake k) {sem : Sem sig} (hs : SemLoc.reg sem = semOf k) {i : ℤ} (hi : i = ((3 : ℕ) : ℤ))
    {l : List (Dev nD × Ck)} (hl : ∀ x ∈ l, lvl k < lvl x.2) {kk : PUnit → Prog (TpuEff nD τ sig (Elt F) Λ₀ .tc) α} :
    iprop(recs m K ∗ owing c l ∗ due c k)
      ⊢ iprop((owing c l ∗ semVal (cell c k) 0 ∗ bigSep (parts k) (pay m c k 0) -∗ Run c (kk ⟨⟩) Ψ) -∗ Run c (.op (.semWait sem i) kk) Ψ) := by
  subst hi
  obtain ⟨e1, e2, e3, e4⟩ := shake_facts hk
  have hw := fun W => Rounds.wp_wait_rest_token (Q := Ψ) (defs := defs₀ (F := F)) (Γ := PendingWaitsCtx.empty) 𝒱₀ ER (rd m) (c : Thread nD τ) none (κ := K (c, k)) (Es := Set.univ) (sm := .reg sem) (k' := 3) (k := kk)
    (wpE_semWait_eq (sem := sem) 𝒱₀ (c : Thread nD τ) none Set.univ) (Set.mem_univ _) () (O := owe l) (W := W) (R := 0) (m := 0) (T := ∅)
    (by rw [hs]; rw [rd_expect m c k 0 (by omega), e4])
  rw [hs] at hw
  unfold due
  rw [e4]
  unfold owing
  iintro ⟨#R, ⟨%W, HO⟩, Hc, Ha⟩ Hk
  iapply (hw W) $$ [HO Hc Ha]
  · isplitr; · iapply (recs_inv m K c k); iexact R
    isplitl [Hc]; · iexact Hc
    isplitl [HO]; · iexact HO
    isplitr; · iapply (mayWait_of c (semOf k) (lvl k) (lv_cell c k ()) l hl); iapply (recs_levs m K); iexact R
    iexact Ha
  iapply (wait_tail m K c k e1)
  isplitr; · iexact R
  iexact Hk

/-- The wait for one transfer of 256 × 2048 bf16 elements. -/
theorem step_wait {k : Ck} (h1 : rounds k = 1) (ht : tot k = N) {sem : DmaSem sig} (hs : SemLoc.dma sem = semOf k)
    {sp sp' : Space} {s s' : Shape} {e e' : EltTy} {x : Memref sig .tc sp' s' e'} {y : Memref sig .tc sp s e} {hx : x.view.WordExact} {hy : y.view.WordExact}
    (hN : y.view.dmaCredit = N) {l : List (Dev nD × Ck)} (hl : ∀ z ∈ l, lvl k < lvl z.2) {kk : PUnit → Prog (TpuEff nD τ sig (Elt F) Λ₀ .tc) α} :
    iprop(recs m K ∗ owing c l ∗ due c k)
      ⊢ iprop((owing c l ∗ semVal (cell c k) 0 ∗ bigSep (parts k) (pay m c k 0) -∗ Run c (kk ⟨⟩) Ψ) -∗ Run c (.op (.waitDma2 sem x y hx hy) kk) Ψ) := by
  have hw := fun W => Rounds.wp_wait_rest_token (Q := Ψ) (defs := defs₀ (F := F)) (Γ := PendingWaitsCtx.empty) 𝒱₀ ER (rd m) (c : Thread nD τ) none (κ := K (c, k)) (Es := Set.univ) (sm := .dma sem) (k := kk)
    (wpE_waitDma2_eq (src := x) (dst := y) (hsrc := hx) (hdst := hy) (sem := sem) 𝒱₀ (c : Thread nD τ) none Set.univ) (Set.mem_univ _) () (O := owe l) (W := W) (R := 0) (m := 0) (T := ∅)
    (by rw [hs, rd_expect m c k 0 (by omega), ht, Nat.zero_add]; exact hN)
  rw [hs, hN] at hw
  unfold due
  rw [ht]
  unfold owing
  iintro ⟨#R, ⟨%W, HO⟩, Hc, Ha⟩ Hk
  iapply (hw W) $$ [HO Hc Ha]
  · isplitr; · iapply (recs_inv m K c k); iexact R
    isplitl [Hc]; · iexact Hc
    isplitl [HO]; · iexact HO
    isplitr; · iapply (mayWait_of c (semOf k) (lvl k) (lv_cell c k ()) l hl); iapply (recs_levs m K); iexact R
    iexact Ha
  iapply (wait_tail m K c k h1)
  isplitr; · iexact R
  iexact Hk

/-! ## Transfers -/

/-- A transfer into slot `p`, half `h` of the device that expects it: the source is lent until the send cell's wait, the
    slot handed over with the source's contents. -/
theorem step_send (p : Fin 3) (h : Bool) {ks kr : Ck} (hks : rounds ks = 1 ∧ parts ks = {0} ∧ amt ks = N) (hkr : rounds kr = 1 ∧ parts kr = {0} ∧ amt kr = N)
    {x y : Memref sig .tc .vmem S256x2048 .bf16} {n : Dev nD} (hn : n = tgt p c) (hy : y = slot p h) {sS sR : SemLoc sig} (hsS : sS = semOf ks) (hsR : sR = semOf kr)
    (hN : (slot p h).view.amount sR = N) (q : PosShare TreeShare) (X : Vec F S256x2048 .bf16) (hp₁ : owns (c : Thread nD τ) x q X ⊢ pay m c ks 0 0) (hp₂ : has (tgt p c) (slot p h) X ⊢ pay m (tgt p c) kr 0 0)
    {hsc : (y : Memref sig (Dev.tc n : Thread nD τ).2.kind .vmem S256x2048 .bf16).view.ref.isScScratch = false} {hwx : x.view.WordExact} {hwy : y.view.WordExact}
    {hty : DmaTarget.Typed .vmem sR (.remote (Dev.tc n : Thread nD τ) y sS hsc)}
    {l l' : List (Dev nD × Ck)} (hl : l' = (tgt p c, kr) :: l) {kk : PUnit → Prog (TpuEff nD τ sig (Elt F) Λ₀ .tc) α} :
    iprop(recs m K ∗ owns (c : Thread nD τ) x q X ∗ (∃ Y, has (tgt p c) (slot p h) Y) ∗ owing c l' ∗ dutyTok ER (cell c ks) 0 0 ∗ dutyTok ER (cell (tgt p c) kr) 0 0)
      ⊢ iprop((cred (tallyAt (cell c ks) () N) ∗ owing c l -∗ Run c (kk ⟨⟩) Ψ)
          -∗ Run c (.op (.enqueueDma x (.remote (Dev.tc n : Thread nD τ) y sS hsc) sR hwx hwy hty) kk) Ψ) := by
  subst hn hy hl hsS hsR
  obtain ⟨a1, a2, a3⟩ := hks
  obtain ⟨b1, b2, b3⟩ := hkr
  have hw := fun W fs (hfs : x.view.read (Elt F) fs = X) fd => Rounds.wp_send_pointsTo (Q := Ψ) (defs := defs₀ (F := F)) (Γ := PendingWaitsCtx.empty) 𝒱₀ ER (rd m) (c : Thread nD τ) none (c' := (tgt p c : Thread nD τ)) (src := x) (dst := slot p h)
    (κ₁ := K (c, ks)) (κ₂ := K (tgt p c, kr)) (sS := semOf ks) (sem := semOf kr) (hsc := hsc) (hsrc := hwx) (hdst := hwy) (hsem := hty) (k := kk) (q := q) (fs := fs) (fd := fd)
    (r₁ := 0) (r₂ := 0) (d₁ := 0) (d₂ := 0) (Es := Set.univ) (W := W) (O₀ := owe ((tgt p c, kr) :: l))
    (by rw [rd_duties m _ ks 0 (by omega), a2]; exact Finset.mem_singleton_self _) (by rw [rd_duties m _ kr 0 (by omega), b2]; exact Finset.mem_singleton_self _)
    () () N hN ((rd_amount m _ ks 0 0).trans a3) ((rd_amount m _ kr 0 0).trans b3) (owe l) (by rw [owe_cons, b3])
    (by
      rw [rd_payload]
      exact (owns_intro (c : Thread nD τ) x q fs).trans ((Entails.of_eq (by rw [hfs])).trans hp₁))
    (by
      rw [rd_payload, hfs]
      refine (owns_intro (tgt p c : Thread nD τ) (slot p h) fullShare _).trans (Entails.trans (Entails.of_eq ?_) hp₂)
      rw [View.read_write_univ])
  unfold owing has owns
  iintro ⟨#R, ⟨%fs, %hfs, Hs⟩, ⟨%Y, %fd, %hfd, Hd⟩, ⟨%W, HO⟩, Ht, Ht'⟩ Hk
  iapply (hw W fs hfs fd) $$ [HO Hs Hd Ht Ht']
  · isplitr; · iapply (recs_inv m K c ks); iexact R
    isplitr; · iapply (recs_inv m K (tgt p c) kr); iexact R
    isplitl [Hs]; · iexact Hs
    isplitl [Hd]; · iexact Hd
    isplitl [HO]; · iexact HO
    isplitl [Ht]; · iexact Ht
    isplitr; · iapply (recs_reached m K c ks); iexact R
    isplitl [Ht']; · iexact Ht'
    iapply (recs_reached m K (tgt p c) kr); iexact R
  iintro ⟨Hc, HO⟩
  iapply Hk
  isplitl [Hc]; · iexact Hc
  iexists W; iexact HO

/-- The right to send the scatter's copy into slot `p`, half `h`, and to be credited for its departure. -/
def stok (c : Dev nD) (p : Fin 3) (h : Bool) : sProp 𝕄 := iprop(dutyTok ER (cell c (.ssc p h)) 0 0 ∗ dutyTok ER (cell (tgt p c) (.rsc p h)) 0 0)
/-- The right to send the gather's copy into slot `p`, half `h`, and to be credited for its departure. -/
def gtok (c : Dev nD) (p : Fin 3) (h : Bool) : sProp 𝕄 := iprop(dutyTok ER (cell c (.sga p h)) 0 0 ∗ dutyTok ER (cell (tgt p c) (.rga p h)) 0 0)

/-- The scatter's transfer: the partial product of the receiver's chunk. -/
theorem step_scatter (p : Fin 3) (h : Bool) {x y : Memref sig .tc .vmem S256x2048 .bf16} (hx : x = prow h c (sOff p h)) {n : Dev nD} (hn : n = tgt p c) (hy : y = slot p h)
    {sS sR : SemLoc sig} (hsS : sS = semOf (.ssc p h)) (hsR : sR = semOf (.rsc p h))
    {hsc : (y : Memref sig (Dev.tc n : Thread nD τ).2.kind .vmem S256x2048 .bf16).view.ref.isScScratch = false} {hwx : x.view.WordExact} {hwy : y.view.WordExact}
    {hty : DmaTarget.Typed .vmem sR (.remote (Dev.tc n : Thread nD τ) y sS hsc)}
    {l l' : List (Dev nD × Ck)} (hl : l' = (tgt p c, .rsc p h) :: l) {kk : PUnit → Prog (TpuEff nD τ sig (Elt F) Λ₀ .tc) α} :
    iprop(recs m K ∗ has c (prow h c (sOff p h)) (pv m c h (sOff p h)) ∗ (∃ Y, has (tgt p c) (slot p h) Y) ∗ owing c l' ∗ stok c p h)
      ⊢ iprop((cred (tallyAt (cell c (.ssc p h)) () N) ∗ owing c l -∗ Run c (kk ⟨⟩) Ψ)
          -∗ Run c (.op (.enqueueDma x (.remote (Dev.tc n : Thread nD τ) y sS hsc) sR hwx hwy hty) kk) Ψ) := by
  subst hx
  exact step_send m K c p h (ks := .ssc p h) (kr := .rsc p h) ⟨rfl, rfl, rfl⟩ ⟨rfl, rfl, rfl⟩ hn hy hsS hsR (by rw [hsR]; rfl) fullShare (pv m c h (sOff p h)) (Entails.refl _)
    (Entails.of_eq (by dsimp only [pay]; rw [src_tgt])) hl

/-- The gather's transfer: the sum of the device's own chunk. -/
theorem step_gather (p : Fin 3) (h : Bool) {x y : Memref sig .tc .vmem S256x2048 .bf16} (hx : x = prow h c (own h)) {n : Dev nD} (hn : n = tgt p c) (hy : y = slot p h)
    {sS sR : SemLoc sig} (hsS : sS = semOf (.sga p h)) (hsR : sR = semOf (.rga p h))
    {hsc : (y : Memref sig (Dev.tc n : Thread nD τ).2.kind .vmem S256x2048 .bf16).view.ref.isScScratch = false} {hwx : x.view.WordExact} {hwy : y.view.WordExact}
    {hty : DmaTarget.Typed .vmem sR (.remote (Dev.tc n : Thread nD τ) y sS hsc)}
    {l l' : List (Dev nD × Ck)} (hl : l' = (tgt p c, .rga p h) :: l) {kk : PUnit → Prog (TpuEff nD τ sig (Elt F) Λ₀ .tc) α} :
    iprop(recs m K ∗ owns (c : Thread nD τ) (prow h c (own h)) (gsh p) (tv m c h) ∗ (∃ Y, has (tgt p c) (slot p h) Y) ∗ owing c l' ∗ gtok c p h)
      ⊢ iprop((cred (tallyAt (cell c (.sga p h)) () N) ∗ owing c l -∗ Run c (kk ⟨⟩) Ψ)
          -∗ Run c (.op (.enqueueDma x (.remote (Dev.tc n : Thread nD τ) y sS hsc) sR hwx hwy hty) kk) Ψ) := by
  subst hx
  exact step_send m K c p h (ks := .sga p h) (kr := .rga p h) ⟨rfl, rfl, rfl⟩ ⟨rfl, rfl, rfl⟩ hn hy hsS hsR (by rw [hsR]; rfl) (gsh p) (tv m c h) (Entails.refl _)
    (Entails.of_eq (by dsimp only [pay]; rw [src_tgt])) hl

/-! ## Fetches -/

/-- The whole block of the left factor, at fetch slot `s`'s share. -/
def allA (s : Fin 2) (c : Dev nD) : sProp 𝕄 := ((c : Thread nD τ).loc main_arg0) ↦{fsh s} m ((c : Thread nD τ).loc main_arg0)

/-- The rows of one fetch come out of the block, and go back. -/
theorem allA_open (s : Fin 2) (h : Bool) (k : Fin 4) : allA m s c ⊢ iprop(rowsA m s c h k ∗ (rowsA m s c h k -∗ allA m s c)) := by
  unfold allA rowsA
  iintro H
  ihave H := (pointsTo_split_subset (Finset.subset_univ (arow h c k).view.set)).1 $$ H
  icases H with ⟨H1, H2⟩
  isplitl [H1]; · iexact H1
  iintro H1
  iapply (pointsTo_split_subset (Finset.subset_univ (arow h c k).view.set)).2
  isplitl [H1]; · iexact H1
  iexact H2

/-- The rights to the fetches into slot `s` from round `r` on. -/
def ftok (c : Dev nD) (s : Fin 2) (r : ℕ) : sProp 𝕄 := bigSep (Finset.Ico r 4) fun r => dutyTok ER (cell c (.fet s)) r 0

/-- Fetch slot `s` with `r` fetches done and none under way, -/
def fidle (c : Dev nD) (s : Fin 2) (r : ℕ) : sProp 𝕄 :=
  iprop(atPos ER (cell c (.fet s)) r ∅ 0 ∗ reached ER (cell c (.fet s)) r ∗ ftok c s r ∗ allA m s c)
/-- and with the next one under way. -/
def fbusy (c : Dev nD) (s : Fin 2) (r : ℕ) : sProp 𝕄 :=
  iprop(atPos ER (cell c (.fet s)) r ∅ 0 ∗ cred (tallyAt (cell c (.fet s)) () NA) ∗ ftok c s (r + 1) ∗ (rowsA m s c (fHalf s r) (fOff s r) -∗ allA m s c))

/-- The right to the next fetch. -/
theorem ftok_next (s : Fin 2) (r : ℕ) (hr : r < 4) : (ftok c s r : sProp 𝕄) = iprop(dutyTok ER (cell c (.fet s)) r 0 ∗ ftok c s (r + 1)) := by
  unfold ftok
  rw [show Finset.Ico r 4 = insert r (Finset.Ico (r + 1) 4) from Finset.ext fun x => by simp only [Finset.mem_Ico, Finset.mem_insert]; omega]
  exact bigSep_insert (by simp)

/-- A fetch starts. -/
theorem step_fetch (s : Fin 2) (r : ℕ) (hr : r < 4) {x : Memref sig .tc .hbm S256x1024 .f32} {y : Memref sig .tc .vmem S256x1024 .f32} (hx : x = arow (fHalf s r) c (fOff s r)) (hy : y = tile s)
    {sem : SemLoc sig} (hs : sem = semOf (.fet s)) {hwx : x.view.WordExact} {hwy : y.view.WordExact} {hty : DmaTarget.Typed (nD := nD) (p := (.tc : Proc τ)) .hbm sem (.here y)}
    {kk : PUnit → Prog (TpuEff nD τ sig (Elt F) Λ₀ .tc) α} :
    iprop(recs m K ∗ fidle m c s r ∗ ∃ X, has c (tile s) X)
      ⊢ iprop((fbusy m c s r -∗ Run c (kk ⟨⟩) Ψ) -∗ Run c (.op (.enqueueDma x (.here y) sem hwx hwy hty) kk) Ψ) := by
  subst hx hy hs
  have hw := fun fd => Rounds.wp_copy_pointsTo (Q := Ψ) (defs := defs₀ (F := F)) (Γ := PendingWaitsCtx.empty) 𝒱₀ ER (rd m) (c : Thread nD τ) none (src := arow (fHalf s r) c (fOff s r)) (dst := tile s) (sem := semOf (.fet s)) (hsrc := hwx) (hdst := hwy) (hsem := hty) (k := kk)
    (q := fsh s) (fs := m ((c : Thread nD τ).loc main_arg0)) (fd := fd) (r := r) (d := 0) (κ := K (c, .fet s)) (Es := Set.univ)
    (by rw [rd_duties m c (.fet s) r hr]; exact Finset.mem_singleton_self _) () NA (credit_tile s) (rd_amount m c (.fet s) r 0)
    (by
      rw [rd_payload]
      dsimp only [pay]
      iintro ⟨Hd, Hs⟩
      isplitl [Hs]; · unfold rowsA; iexact Hs
      unfold has owns; iexists ((tile s).view.write (Elt F) fd (av m c (fHalf s r) (fOff s r)) Finset.univ); isplitr; · (ipureintro; exact View.read_write_univ _ _)
      iexact Hd)
  unfold fidle
  rw [ftok_next c s r hr]
  unfold has owns
  iintro ⟨#R, ⟨Ha, #Hr, ⟨Ht, Hts⟩, HA⟩, ⟨%X, %fd, %hfd, Hd⟩⟩ Hk
  ihave HA := (allA_open m c s (fHalf s r) (fOff s r)) $$ HA
  icases HA with ⟨Hrow, Hback⟩
  iapply (hw fd) $$ [Hrow Hd Ht]
  · isplitr; · iapply (recs_inv m K c (.fet s)); iexact R
    isplitl [Hrow]; · unfold rowsA; iexact Hrow
    isplitl [Hd]; · iexact Hd
    isplitl [Ht]; · iexact Ht
    iexact Hr
  iintro Hc
  iapply Hk
  unfold fbusy
  isplitl [Ha]; · iexact Ha
  isplitl [Hc]; · iexact Hc
  isplitl [Hts]; · iexact Hts
  iexact Hback

/-- A fetch is waited for: the slot holds the rows. -/
theorem step_fwait (s : Fin 2) (r : ℕ) (hr : r < 4) {x : Memref sig .tc .hbm S256x1024 .f32} {y : Memref sig .tc .vmem S256x1024 .f32} (hy : y = tile s)
    {sem : DmaSem sig} (hs : SemLoc.dma sem = semOf (.fet s)) {hwx : x.view.WordExact} {hwy : y.view.WordExact}
    {l : List (Dev nD × Ck)} (hl : ∀ z ∈ l, 0 < lvl z.2) {kk : PUnit → Prog (TpuEff nD τ sig (Elt F) Λ₀ .tc) α} :
    iprop(recs m K ∗ owing c l ∗ fbusy m c s r)
      ⊢ iprop((owing c l ∗ fidle m c s (r + 1) ∗ has c (tile s) (av m c (fHalf s r) (fOff s r)) -∗ Run c (kk ⟨⟩) Ψ) -∗ Run c (.op (.waitDma2 sem x y hwx hwy) kk) Ψ) := by
  subst hy
  have hw := fun W => Rounds.wp_wait_rest_token (Q := Ψ) (defs := defs₀ (F := F)) (Γ := PendingWaitsCtx.empty) 𝒱₀ ER (rd m) (c : Thread nD τ) none (κ := K (c, .fet s)) (Es := Set.univ) (sm := .dma sem) (k := kk)
    (wpE_waitDma2_eq (src := x) (dst := tile s) (hsrc := hwx) (hdst := hwy) (sem := sem) 𝒱₀ (c : Thread nD τ) none Set.univ) (Set.mem_univ _) () (O := owe l) (W := W) (R := r) (m := 0) (T := ∅)
    (by rw [hs, rd_expect m c (.fet s) r hr, Nat.zero_add]; exact credit_tile s)
  rw [hs, credit_tile, rd_rest m c (.fet s) r hr, show parts (.fet s) = {0} from rfl, bigSep_singleton] at hw
  unfold fbusy
  unfold owing
  iintro ⟨#R, ⟨%W, HO⟩, Ha, Hc, Hts, Hback⟩ Hk
  iapply (hw W) $$ [HO Hc Ha]
  · isplitr; · iapply (recs_inv m K c (.fet s)); iexact R
    isplitl [Hc]; · iexact Hc
    isplitl [HO]; · iexact HO
    isplitr; · iapply (mayWait_of c (semOf (.fet s)) 0 (lv_cell c (.fet s) ()) l hl); iapply (recs_levs m K); iexact R
    iexact Ha
  dsimp only [pay]
  iintro ⟨HO, Ha, Hr, Hrow, Ht⟩
  iapply Hk
  isplitl [HO]; · iexists _; iexact HO
  isplitl [Ha Hr Hts Hrow Hback]
  · unfold fidle
    isplitl [Ha]; · iexact Ha
    isplitl [Hr]; · iexact Hr
    isplitl [Hts]; · iexact Hts
    iapply Hback; iexact Hrow
  iexact Ht

/-! ## Loads and stores -/

/-- A load of a held part of a memref. -/
theorem step_load {cs : CoreSpace} {s : Shape} {e : EltTy} {x : Memref sig .tc cs s e} (r : Rect s) {hr} (q : PosShare TreeShare) (X : r.shape.Idx → Elt F e)
    {hl : x.view.LoadsAt r.toLoadRect} {kk : (r.shape.Idx → Elt F e) → Prog (TpuEff nD τ sig (Elt F) Λ₀ .tc) α} :
    owns (c : Thread nD τ) (x.slice r hr) q X
      ⊢ iprop((owns (c : Thread nD τ) (x.slice r hr) q X -∗ Run c (kk X) Ψ) -∗ Run c (.op (.load x r.toLoadRect hl) kk) Ψ) := by
  unfold owns
  iintro ⟨%f, %hf, H⟩ Hk
  subst hf
  iapply (wp_load_rect 𝒱₀ (c : Thread nD τ) none Set.univ (m := x) (r := r) Finset.Subset.rfl) $$ H
  iintro H
  iapply Hk
  iexists f; isplitr; · (ipureintro; rfl)
  iexact H

/-- A store over a held part of a memref. -/
theorem step_store {cs : CoreSpace} {s : Shape} {e : EltTy} {x : Memref sig .tc cs s e} (r : Rect s) (hr) (w : r.shape.Idx → Elt F e)
    {hx : (x.access r).Stores Finset.univ} {hm : (Finset.univ : Finset r.shape.Idx) = Finset.univ ∨ ∀ a, r.stride a = 1} {kk : PUnit → Prog (TpuEff nD τ sig (Elt F) Λ₀ .tc) α} :
    (iprop(∃ X, has c (x.slice r hr) X) : sProp 𝕄)
      ⊢ iprop((has c (x.slice r hr) w -∗ Run c (kk ⟨⟩) Ψ) -∗ Run c (.op (.store x r w Finset.univ hx hm) kk) Ψ) := by
  unfold has owns
  iintro ⟨%X, %f, %hf, H⟩ Hk
  iapply (wp_store (hx := hx) (hm := hm) 𝒱₀ (c : Thread nD τ) none Set.univ (m := x) (r := r) (w := w) (Mk := Finset.univ) (S := (x.slice r hr).view.set) Finset.Subset.rfl) $$ H
  iintro H
  iapply Hk
  iexists ((x.access r).write (Elt F) f w Finset.univ); isplitr; · (ipureintro; exact View.read_write_univ _ _)
  iexact H

/-- A load of a receive slot: what is read, its two leading axes dropped, is what the slot holds. -/
theorem step_load_slot (p : Fin 3) (h : Bool) (X : Vec F S256x2048 .bf16)
    {hl : (Memref.whole cc0_scratch2 : Memref sig .tc .vmem S3x2x256x2048 .bf16).view.LoadsAt (slotRect p h).toLoadRect}
    {kk : Vec F S1x1x256x2048 .bf16 → Prog (TpuEff nD τ sig (Elt F) Λ₀ .tc) α} :
    has c (slot p h) X
      ⊢ iprop((∀ Y, ⌜(shapeCast S256x2048 Y shapeCasts_S1x1x256x2048_S256x2048 : FVec F S256x2048 .bf16) = X⌝ -∗ has c (slot p h) X -∗ Run c (kk Y) Ψ)
          -∗ Run c (.op (.load (Memref.whole cc0_scratch2 : Memref sig .tc .vmem S3x2x256x2048 .bf16) (slotRect p h).toLoadRect hl) kk) Ψ) := by
  unfold has owns
  iintro ⟨%f, %hf, H⟩ Hk
  iapply (wp_load_rect 𝒱₀ (c : Thread nD τ) none Set.univ (m := (Memref.whole cc0_scratch2 : Memref sig .tc .vmem S3x2x256x2048 .bf16)) (r := slotRect p h) (S := (slot p h).view.set) (by rw [View.set_reshape])) $$ H
  iintro H
  iapply Hk $$ [] [H]
  · ipureintro; exact hf
  iexists f; isplitr; · (ipureintro; exact hf)
  iexact H

/-- A load of a fetch slot, likewise. -/
theorem step_load_tile (s : Fin 2) (X : Vec F S256x1024 .f32)
    {hl : (Memref.whole cc0_scratch0 : Memref sig .tc .vmem S2x256x1024 .f32).view.LoadsAt (tileRect s).toLoadRect}
    {kk : Vec F S1x256x1024 .f32 → Prog (TpuEff nD τ sig (Elt F) Λ₀ .tc) α} :
    has c (tile s) X
      ⊢ iprop((∀ Y, ⌜(shapeCast S256x1024 Y shapeCasts_S1x256x1024_S256x1024 : FVec F S256x1024 .f32) = X⌝ -∗ has c (tile s) X -∗ Run c (kk Y) Ψ)
          -∗ Run c (.op (.load (Memref.whole cc0_scratch0 : Memref sig .tc .vmem S2x256x1024 .f32) (tileRect s).toLoadRect hl) kk) Ψ) := by
  unfold has owns
  iintro ⟨%f, %hf, H⟩ Hk
  iapply (wp_load_rect 𝒱₀ (c : Thread nD τ) none Set.univ (m := (Memref.whole cc0_scratch0 : Memref sig .tc .vmem S2x256x1024 .f32)) (r := tileRect s) (S := (tile s).view.set) (by rw [View.set_reshape])) $$ H
  iintro H
  iapply Hk $$ [] [H]
  · ipureintro; exact hf
  iexists f; isplitr; · (ipureintro; exact hf)
  iexact H

/-- The device's block of the right factor, staged. -/
def rightB (c : Dev nD) : sProp 𝕄 := ((c : Thread nD τ).loc cc0_stg0_0) ↦{fullShare} bv m c

/-- The read of the whole of `B`'s block gives its contents. -/
theorem read_right (h0 : ∀ a, (![0, 0] : Fin 2 → ℕ) a + S1024x2048.size a ≤ S1024x2048.size a) (f : (cc0_stg0_0 : Ref sig .tc).ty.Contents (Elt F)) :
    (Memref.whole cc0_stg0_0 : Memref sig .tc .vmem S1024x2048 .f32).view.readAt (Elt F) (Rect.unit (s := S1024x2048) ![0, 0] S1024x2048.size h0).toLoadRect f = f :=
  Memref.readAt_unit_zero (Elt F) cc0_stg0_0 (funext fun a => by fin_cases a <;> rfl) h0 f

/-- A load of it. -/
theorem step_load_right {h0 : ∀ a, (![0, 0] : Fin 2 → ℕ) a + S1024x2048.size a ≤ S1024x2048.size a}
    {hl : (Memref.whole cc0_stg0_0 : Memref sig .tc .vmem S1024x2048 .f32).view.LoadsAt (Rect.unit (s := S1024x2048) ![0, 0] S1024x2048.size h0).toLoadRect}
    {kk : Vec F S1024x2048 .f32 → Prog (TpuEff nD τ sig (Elt F) Λ₀ .tc) α} :
    rightB m c
      ⊢ iprop((rightB m c -∗ Run c (kk (bv m c)) Ψ)
          -∗ Run c (.op (.load (Memref.whole cc0_stg0_0 : Memref sig .tc .vmem S1024x2048 .f32) (Rect.unit (s := S1024x2048) ![0, 0] S1024x2048.size h0).toLoadRect hl) kk) Ψ) := by
  unfold rightB
  iintro H Hk
  iapply (wp_load 𝒱₀ (c : Thread nD τ) none Set.univ (m := (Memref.whole cc0_stg0_0 : Memref sig .tc .vmem S1024x2048 .f32)) (Finset.subset_univ _)) $$ H
  iintro H
  rw [read_right]
  iapply Hk
  iexact H

/-- A fetched block multiplied by the right factor and stored as a partial product. -/
theorem step_product (s : Fin 2) (h : Bool) (k : Fin 4) (X : Vec F S256x1024 .f32)
    {h0 : ∀ a, (![0, 0] : Fin 2 → ℕ) a + S1024x2048.size a ≤ S1024x2048.size a}
    {hl₁ : (Memref.whole cc0_scratch0 : Memref sig .tc .vmem S2x256x1024 .f32).view.LoadsAt (tileRect s).toLoadRect}
    {hl₂ : (Memref.whole cc0_stg0_0 : Memref sig .tc .vmem S1024x2048 .f32).view.LoadsAt (Rect.unit (s := S1024x2048) ![0, 0] S1024x2048.size h0).toLoadRect}
    {hl₃ : (Memref.whole cc0_scratch1 : Memref sig .tc .vmem S2048x2048 .bf16).view.LoadsAt (rectP h c k).toLoadRect}
    {pay : Vec F S1x256x1024 .f32 → Vec F S1024x2048 .f32 → FVec F S256x2048 .bf16} (hpay : pay = k0_pay1)
    {hx : ((Memref.whole cc0_scratch1 : Memref sig .tc .vmem S2048x2048 .bf16).access (rectP h c k)).Stores Finset.univ}
    {hm : (Finset.univ : Finset (rectP h c k).shape.Idx) = Finset.univ ∨ ∀ a, (rectP h c k).stride a = 1} {kk : PUnit → Prog (TpuEff nD τ sig (Elt F) Λ₀ .tc) α} :
    iprop(has c (tile s) X ∗ rightB m c ∗ (∃ P, has c (prow h c k) P))
      ⊢ iprop((((∃ Y, has c (tile s) Y) ∗ rightB m c ∗ has c (prow h c k) (prodOf X (bv m c))) -∗ Run c (kk ⟨⟩) Ψ)
          -∗ Run c (.op (.load (Memref.whole cc0_scratch0 : Memref sig .tc .vmem S2x256x1024 .f32) (tileRect s).toLoadRect hl₁) fun a =>
              .op (.load (Memref.whole cc0_stg0_0 : Memref sig .tc .vmem S1024x2048 .f32) (Rect.unit (s := S1024x2048) ![0, 0] S1024x2048.size h0).toLoadRect hl₂) fun b =>
              .op (.load (Memref.whole cc0_scratch1 : Memref sig .tc .vmem S2048x2048 .bf16) (rectP h c k).toLoadRect hl₃) fun _ =>
              .op (.store (Memref.whole cc0_scratch1 : Memref sig .tc .vmem S2048x2048 .bf16) (rectP h c k) (pay a b) Finset.univ hx hm) kk) Ψ) := by
  subst hpay
  iintro ⟨Ht, HB, ⟨%P, Hp⟩⟩ Hk
  iapply (step_load_tile c s X) $$ Ht
  iintro %Y %hY Ht
  iapply (step_load_right m c) $$ HB
  iintro HB
  iapply (step_load c (rectP h c k) fullShare P) $$ Hp
  iintro Hp
  iapply (step_store c (rectP h c k) (fun _ => rfl) (k0_pay1 Y (bv m c))) $$ [Hp]
  · iexists P; iexact Hp
  rw [pay1_eq Y (bv m c) X hY]
  iintro Hp
  iapply Hk
  isplitl [Ht]; · iexists X; iexact Ht
  isplitl [HB]; · iexact HB
  iexact Hp

end Cert.Mesh

end
-- ==== Proof.Marks.lean ====
/- The steps as the parts of the body take them; which devices they name; what stays owed. -/
module

public import proofs.«01_k».proof.Proof.Steps

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Ck → ℕ) (c : Dev nD) {α : Type} {Ψ : α → sProp (MT nD τ sig Unit (Elt F) ℕ UU ℕ)}

/-! ## Devices, debts -/

/-- The printed number 1, of a signal, is the device that fills slot 0 here. -/
theorem dev1_src : (⟨k0_dev1 c, k0_dev1_lt c⟩ : Dev nD) = src 0 c := by revert c; decide +kernel
/-- The printed number 2, of a signal, is the device that fills slot 1 here. -/
theorem dev2_src : (⟨k0_dev2 c, k0_dev2_lt c⟩ : Dev nD) = src 1 c := by revert c; decide +kernel
/-- The printed number 3, of a signal, is the device that fills slot 2 here. -/
theorem dev3_src : (⟨k0_dev3 c, k0_dev3_lt c⟩ : Dev nD) = src 2 c := by revert c; decide +kernel
/-- The printed number 4, of a remote copy, is the device whose slot 1 is filled from here. -/
theorem dev4_tgt : (⟨k0_dev4 c, k0_dev4_lt c⟩ : Dev nD) = tgt 1 c := by revert c; decide +kernel
/-- The printed number 5, of a remote copy, is the device whose slot 0 is filled from here. -/
theorem dev5_tgt : (⟨k0_dev5 c, k0_dev5_lt c⟩ : Dev nD) = tgt 0 c := by revert c; decide +kernel
/-- The printed number 6, of a remote copy, is the device whose slot 2 is filled from here. -/
theorem dev6_tgt : (⟨k0_dev6 c, k0_dev6_lt c⟩ : Dev nD) = tgt 2 c := by revert c; decide +kernel
/-- The printed number 7, of a remote copy, is the device whose slot 2 is filled from here. -/
theorem dev7_tgt : (⟨k0_dev7 c, k0_dev7_lt c⟩ : Dev nD) = tgt 2 c := by revert c; decide +kernel
/-- The printed number 8, of a remote copy, is the device whose slot 0 is filled from here. -/
theorem dev8_tgt : (⟨k0_dev8 c, k0_dev8_lt c⟩ : Dev nD) = tgt 0 c := by revert c; decide +kernel
/-- The printed number 9, of a remote copy, is the device whose slot 1 is filled from here. -/
theorem dev9_tgt : (⟨k0_dev9 c, k0_dev9_lt c⟩ : Dev nD) = tgt 1 c := by revert c; decide +kernel
/-- The printed number 10, of a signal, is the device that fills slot 0 here. -/
theorem dev10_src : (⟨k0_dev10 c, k0_dev10_lt c⟩ : Dev nD) = src 0 c := by revert c; decide +kernel
/-- The printed number 11, of a signal, is the device that fills slot 1 here. -/
theorem dev11_src : (⟨k0_dev11 c, k0_dev11_lt c⟩ : Dev nD) = src 1 c := by revert c; decide +kernel
/-- The printed number 12, of a signal, is the device that fills slot 2 here. -/
theorem dev12_src : (⟨k0_dev12 c, k0_dev12_lt c⟩ : Dev nD) = src 2 c := by revert c; decide +kernel
/-- The printed number 13, of a remote copy, is the device whose slot 1 is filled from here. -/
theorem dev13_tgt : (⟨k0_dev13 c, k0_dev13_lt c⟩ : Dev nD) = tgt 1 c := by revert c; decide +kernel
/-- The printed number 14, of a remote copy, is the device whose slot 0 is filled from here. -/
theorem dev14_tgt : (⟨k0_dev14 c, k0_dev14_lt c⟩ : Dev nD) = tgt 0 c := by revert c; decide +kernel
/-- The printed number 15, of a remote copy, is the device whose slot 2 is filled from here. -/
theorem dev15_tgt : (⟨k0_dev15 c, k0_dev15_lt c⟩ : Dev nD) = tgt 2 c := by revert c; decide +kernel
/-- The printed number 16, of a remote copy, is the device whose slot 1 is filled from here. -/
theorem dev16_tgt : (⟨k0_dev16 c, k0_dev16_lt c⟩ : Dev nD) = tgt 1 c := by revert c; decide +kernel
/-- The printed number 17, of a remote copy, is the device whose slot 0 is filled from here. -/
theorem dev17_tgt : (⟨k0_dev17 c, k0_dev17_lt c⟩ : Dev nD) = tgt 0 c := by revert c; decide +kernel
/-- The printed number 18, of a remote copy, is the device whose slot 2 is filled from here. -/
theorem dev18_tgt : (⟨k0_dev18 c, k0_dev18_lt c⟩ : Dev nD) = tgt 2 c := by revert c; decide +kernel

/-- Every cell anybody owes to lies above the fetches and the departures. -/
theorem above0 (n : ℕ) : ∀ z ∈ debtsAt c n, 0 < lvl z.2 := fun z hz =>
  (by decide +kernel : ∀ c : Dev nD, ∀ z ∈ debts c, 0 < lvl z.2) c z (List.mem_of_mem_drop hz)
/-- The barrier passed, only arrivals and acknowledgements are owed. -/
theorem above1 : ∀ z ∈ debtsAt c 3, 1 < lvl z.2 := by revert c; decide +kernel
/-- The scatter sent, only acknowledgements and gathers are owed. -/
theorem above2 : ∀ z ∈ debtsAt c 9, 2 < lvl z.2 := by revert c; decide +kernel
/-- The acknowledgements given, only gathers are owed. -/
theorem above3 : ∀ z ∈ debtsAt c 12, 3 < lvl z.2 := by revert c; decide +kernel
/-- All paid. -/
theorem above4 (n : ℕ) : ∀ z ∈ debtsAt c 18, n < lvl z.2 := fun z hz => absurd (show z ∈ ([] : List (Dev nD × Ck)) from hz) List.not_mem_nil

/-! ## Steps as the parts take them -/

/-- Device `c`'s own cell, over. -/
abbrev shut (c : Dev nD) (k : Ck) : sProp 𝕄 := semVal (cell c k) 0

/-- The token for signalling the device whose slot-`p` transfers come here. -/
def wtok (c : Dev nD) (k : Ck) (p : Fin 3) : sProp 𝕄 := dutyTok ER (cell (src p c) k) 0 p

/-- A signal, lending a receive slot to the device that writes it. -/
theorem step_give {k : Ck} (hk : Shake k) (p : Fin 3) {n : Dev nD} (hn : n = src p c) {sem : Sem sig} (hs : SemLoc.reg sem = semOf k) {i : ℤ} (hi : i = ((1 : ℕ) : ℤ))
    {l l' : List (Dev nD × Ck)} (hl : l' = (src p c, k) :: l) {kk : PUnit → Prog (TpuEff nD τ sig (Elt F) Λ₀ .tc) α} :
    iprop(recs m K ∗ owing c l' ∗ wtok c k p ∗ (∃ X, has c (slot p false) X) ∗ (∃ X, has c (slot p true) X))
      ⊢ iprop((owing c l -∗ Run c (kk ⟨⟩) Ψ) -∗ Run c (.op (.semSignal (n, .tc) sem i) kk) Ψ) := by
  have h := step_signal m K c (Ψ := Ψ) hk p hn hs hi hl (kk := kk)
  unfold room at h
  exact h

/-- The wait for all three neighbours' signals; their slots are borrowed. -/
theorem step_meet {k : Ck} (hk : Shake k) {sem : Sem sig} (hs : SemLoc.reg sem = semOf k) {i : ℤ} (hi : i = ((3 : ℕ) : ℤ))
    {l : List (Dev nD × Ck)} (hl : ∀ x ∈ l, lvl k < lvl x.2) {kk : PUnit → Prog (TpuEff nD τ sig (Elt F) Λ₀ .tc) α} :
    iprop(recs m K ∗ owing c l ∗ due c k)
      ⊢ iprop((owing c l ∗ shut c k
            ∗ ((∃ X, has (tgt 0 c) (slot 0 false) X) ∗ ∃ X, has (tgt 0 c) (slot 0 true) X)
            ∗ ((∃ X, has (tgt 1 c) (slot 1 false) X) ∗ ∃ X, has (tgt 1 c) (slot 1 true) X)
            ∗ ((∃ X, has (tgt 2 c) (slot 2 false) X) ∗ ∃ X, has (tgt 2 c) (slot 2 true) X) -∗ Run c (kk ⟨⟩) Ψ)
          -∗ Run c (.op (.semWait sem i) kk) Ψ) := by
  have h := step_shake m K c (Ψ := Ψ) hk hs hi hl (kk := kk)
  rw [(shake_facts hk).2.1, bigSep_univ_eq_bigSepL [(0 : Fin 3), 1, 2] (by decide) (by decide), bigSepL_cons_cons, bigSepL_cons_cons, bigSepL_singleton,
    pay_shake m hk, pay_shake m hk, pay_shake m hk] at h
  unfold room at h
  exact h

/-- A wait for a cell with one contribution, which hands over `R`. -/
theorem step_take {k : Ck} {R : sProp 𝕄} (hR : pay m c k 0 0 = R) (hk : rounds k = 1 ∧ parts k = {0} ∧ tot k = N) {sem : DmaSem sig} (hs : SemLoc.dma sem = semOf k)
    {sp sp' : Space} {s s' : Shape} {e e' : EltTy} {x : Memref sig .tc sp' s' e'} {y : Memref sig .tc sp s e} {hx : x.view.WordExact} {hy : y.view.WordExact}
    (hN : y.view.dmaCredit = N) {l : List (Dev nD × Ck)} (hl : ∀ z ∈ l, lvl k < lvl z.2) {kk : PUnit → Prog (TpuEff nD τ sig (Elt F) Λ₀ .tc) α} :
    iprop(recs m K ∗ owing c l ∗ due c k)
      ⊢ iprop((owing c l ∗ shut c k ∗ R -∗ Run c (kk ⟨⟩) Ψ) -∗ Run c (.op (.waitDma2 sem x y hx hy) kk) Ψ) := by
  have h := step_wait m K c (Ψ := Ψ) hk.1 hk.2.2 (x := x) (y := y) (hx := hx) (hy := hy) hs hN hl (kk := kk)
  rw [hk.2.1, bigSep_singleton, hR] at h
  exact h

/-- What a scatter transfer needs of its own, -/
def sready (c : Dev nD) (p : Fin 3) (h : Bool) : sProp 𝕄 := iprop(stok c p h ∗ atPos ER (cell c (.ssc p h)) 0 ∅ 0)
/-- and a gather transfer. -/
def gready (c : Dev nD) (p : Fin 3) (h : Bool) : sProp 𝕄 := iprop(gtok c p h ∗ atPos ER (cell c (.sga p h)) 0 ∅ 0)

/-- A scatter transfer starts; its departure becomes due. -/
theorem step_scatter_due (p : Fin 3) (h : Bool) {x y : Memref sig .tc .vmem S256x2048 .bf16} (hx : x = prow h c (sOff p h)) {n : Dev nD} (hn : n = tgt p c) (hy : y = slot p h)
    {sS sR : SemLoc sig} (hsS : sS = semOf (.ssc p h)) (hsR : sR = semOf (.rsc p h))
    {hsc : (y : Memref sig (Dev.tc n : Thread nD τ).2.kind .vmem S256x2048 .bf16).view.ref.isScScratch = false} {hwx : x.view.WordExact} {hwy : y.view.WordExact}
    {hty : DmaTarget.Typed .vmem sR (.remote (Dev.tc n : Thread nD τ) y sS hsc)}
    {l l' : List (Dev nD × Ck)} (hl : l' = (tgt p c, .rsc p h) :: l) {kk : PUnit → Prog (TpuEff nD τ sig (Elt F) Λ₀ .tc) α} :
    iprop(recs m K ∗ has c (prow h c (sOff p h)) (pv m c h (sOff p h)) ∗ (∃ Y, has (tgt p c) (slot p h) Y) ∗ owing c l' ∗ sready c p h)
      ⊢ iprop((due c (.ssc p h) ∗ owing c l -∗ Run c (kk ⟨⟩) Ψ)
          -∗ Run c (.op (.enqueueDma x (.remote (Dev.tc n : Thread nD τ) y sS hsc) sR hwx hwy hty) kk) Ψ) := by
  unfold sready due
  iintro ⟨#R, HX, HY, HO, HS, HA⟩ Hk
  iapply (step_scatter m K c p h hx hn hy hsS hsR hl) $$ [HX HY HO HS]
  · isplitr; · iexact R
    isplitl [HX]; · iexact HX
    isplitl [HY]; · iexact HY
    isplitl [HO]; · iexact HO
    iexact HS
  iintro ⟨HC, HO⟩
  iapply Hk
  isplitl [HC HA]
  · isplitl [HC]; · iexact HC
    iexact HA
  iexact HO

/-- A gather transfer starts; its departure becomes due. -/
theorem step_gather_due (p : Fin 3) (h : Bool) {x y : Memref sig .tc .vmem S256x2048 .bf16} (hx : x = prow h c (own h)) {n : Dev nD} (hn : n = tgt p c) (hy : y = slot p h)
    {sS sR : SemLoc sig} (hsS : sS = semOf (.sga p h)) (hsR : sR = semOf (.rga p h))
    {hsc : (y : Memref sig (Dev.tc n : Thread nD τ).2.kind .vmem S256x2048 .bf16).view.ref.isScScratch = false} {hwx : x.view.WordExact} {hwy : y.view.WordExact}
    {hty : DmaTarget.Typed .vmem sR (.remote (Dev.tc n : Thread nD τ) y sS hsc)}
    {l l' : List (Dev nD × Ck)} (hl : l' = (tgt p c, .rga p h) :: l) {kk : PUnit → Prog (TpuEff nD τ sig (Elt F) Λ₀ .tc) α} :
    iprop(recs m K ∗ owns (c : Thread nD τ) (prow h c (own h)) (gsh p) (tv m c h) ∗ (∃ Y, has (tgt p c) (slot p h) Y) ∗ owing c l' ∗ gready c p h)
      ⊢ iprop((due c (.sga p h) ∗ owing c l -∗ Run c (kk ⟨⟩) Ψ)
          -∗ Run c (.op (.enqueueDma x (.remote (Dev.tc n : Thread nD τ) y sS hsc) sR hwx hwy hty) kk) Ψ) := by
  unfold gready due
  iintro ⟨#R, HX, HY, HO, HS, HA⟩ Hk
  iapply (step_gather m K c p h hx hn hy hsS hsR hl) $$ [HX HY HO HS]
  · isplitr; · iexact R
    isplitl [HX]; · iexact HX
    isplitl [HY]; · iexact HY
    isplitl [HO]; · iexact HO
    iexact HS
  iintro ⟨HC, HO⟩
  iapply Hk
  isplitl [HC HA]
  · isplitl [HC]; · iexact HC
    iexact HA
  iexact HO

/-- Rows of the output are read (to no end) and written. -/
theorem step_put (h : Bool) (k : Fin 4) (w : FVec F S256x2048 .f32)
    {hl : (Memref.whole cc0_stg1_0 : Memref sig .tc .vmem S2048x2048 .f32).view.LoadsAt (rectP h c k).toLoadRect}
    {hx : ((Memref.whole cc0_stg1_0 : Memref sig .tc .vmem S2048x2048 .f32).access (rectP h c k)).Stores Finset.univ}
    {hm : (Finset.univ : Finset (rectP h c k).shape.Idx) = Finset.univ ∨ ∀ a, (rectP h c k).stride a = 1} {kk : PUnit → Prog (TpuEff nD τ sig (Elt F) Λ₀ .tc) α} :
    (iprop(∃ X, has c (orow h c k) X) : sProp 𝕄)
      ⊢ iprop((has c (orow h c k) w -∗ Run c (kk ⟨⟩) Ψ)
          -∗ Run c (.op (.load (Memref.whole cc0_stg1_0 : Memref sig .tc .vmem S2048x2048 .f32) (rectP h c k).toLoadRect hl) fun _ =>
              .op (.store (Memref.whole cc0_stg1_0 : Memref sig .tc .vmem S2048x2048 .f32) (rectP h c k) w Finset.univ hx hm) kk) Ψ) := by
  iintro ⟨%X, HX⟩ Hk
  iapply (step_load c (rectP h c k) fullShare X) $$ [HX]
  · iexact HX
  iintro HX
  iapply (step_store c (rectP h c k) _ w) $$ [HX]
  · iexists X; iexact HX
  iexact Hk

/-- Rows of the partial products' scratch are read (to no end) and written. -/
theorem step_keep (h : Bool) (k : Fin 4) (w : FVec F S256x2048 .bf16)
    {hl : (Memref.whole cc0_scratch1 : Memref sig .tc .vmem S2048x2048 .bf16).view.LoadsAt (rectP h c k).toLoadRect}
    {hx : ((Memref.whole cc0_scratch1 : Memref sig .tc .vmem S2048x2048 .bf16).access (rectP h c k)).Stores Finset.univ}
    {hm : (Finset.univ : Finset (rectP h c k).shape.Idx) = Finset.univ ∨ ∀ a, (rectP h c k).stride a = 1} {kk : PUnit → Prog (TpuEff nD τ sig (Elt F) Λ₀ .tc) α} :
    (iprop(∃ X, has c (prow h c k) X) : sProp 𝕄)
      ⊢ iprop((has c (prow h c k) w -∗ Run c (kk ⟨⟩) Ψ)
          -∗ Run c (.op (.load (Memref.whole cc0_scratch1 : Memref sig .tc .vmem S2048x2048 .bf16) (rectP h c k).toLoadRect hl) fun _ =>
              .op (.store (Memref.whole cc0_scratch1 : Memref sig .tc .vmem S2048x2048 .bf16) (rectP h c k) w Finset.univ hx hm) kk) Ψ) := by
  iintro ⟨%X, HX⟩ Hk
  iapply (step_load c (rectP h c k) fullShare X) $$ [HX]
  · iexact HX
  iintro HX
  iapply (step_store c (rectP h c k) _ w) $$ [HX]
  · iexists X; iexact HX
  iexact Hk

/-- A gathered slot is read, widened and written to its rows of the output. -/
theorem step_out (p : Fin 3) (h : Bool) (k : Fin 4) (X : Vec F S256x2048 .bf16)
    {hl₀ : (Memref.whole cc0_scratch2 : Memref sig .tc .vmem S3x2x256x2048 .bf16).view.LoadsAt (slotRect p h).toLoadRect}
    {hl : (Memref.whole cc0_stg1_0 : Memref sig .tc .vmem S2048x2048 .f32).view.LoadsAt (rectP h c k).toLoadRect}
    {pay : Vec F S1x1x256x2048 .bf16 → FVec F S256x2048 .f32} (hpay : pay = k0_pay13)
    {hx : ((Memref.whole cc0_stg1_0 : Memref sig .tc .vmem S2048x2048 .f32).access (rectP h c k)).Stores Finset.univ}
    {hm : (Finset.univ : Finset (rectP h c k).shape.Idx) = Finset.univ ∨ ∀ a, (rectP h c k).stride a = 1} {kk : PUnit → Prog (TpuEff nD τ sig (Elt F) Λ₀ .tc) α} :
    iprop(has c (slot p h) X ∗ (∃ Y, has c (orow h c k) Y))
      ⊢ iprop((has c (slot p h) X ∗ has c (orow h c k) (widen X) -∗ Run c (kk ⟨⟩) Ψ)
          -∗ Run c (.op (.load (Memref.whole cc0_scratch2 : Memref sig .tc .vmem S3x2x256x2048 .bf16) (slotRect p h).toLoadRect hl₀) fun a =>
              .op (.load (Memref.whole cc0_stg1_0 : Memref sig .tc .vmem S2048x2048 .f32) (rectP h c k).toLoadRect hl) fun _ =>
              .op (.store (Memref.whole cc0_stg1_0 : Memref sig .tc .vmem S2048x2048 .f32) (rectP h c k) (pay a) Finset.univ hx hm) kk) Ψ) := by
  subst hpay
  iintro ⟨HX, HY⟩ Hk
  iapply (step_load_slot c p h X) $$ [HX]
  · iexact HX
  iintro %V %hV HX
  have e : k0_pay13 V = widen X := pay13_eq V X hV
  rw [e]
  iapply (step_put c h k (widen X)) $$ [HY]
  · iexact HY
  iintro HY
  iapply Hk
  isplitl [HX]; · iexact HX
  iexact HY

/-- A whole share of some rows in three. -/
theorem thirds {s : Shape} {e : EltTy} (x : Memref sig .tc .vmem s e) (X : s.Idx → Elt F e) :
    (has c x X : sProp 𝕄) ⊣⊢ iprop(owns (c : Thread nD τ) x (gsh 0) X ∗ owns (c : Thread nD τ) x (gsh 1) X ∗ owns (c : Thread nD τ) x (gsh 2) X) := by
  have h₁ := owns_halves (Ix := Unit) (Name := ℕ) (U := UU) (Lvl := ℕ) (c : Thread nD τ) x fullShare X
  have h₂ := owns_halves (Ix := Unit) (Name := ℕ) (U := UU) (Lvl := ℕ) (c : Thread nD τ) x fullShare.right X
  constructor
  · refine h₁.1.trans ?_
    iintro ⟨H, H'⟩
    isplitl [H]; · iexact H
    iapply h₂.1; iexact H'
  · refine BIBase.Entails.trans ?_ h₁.2
    iintro ⟨H, H'⟩
    isplitl [H]; · iexact H
    iapply h₂.2; iexact H'

end Cert.Mesh

end
-- ==== Proof.Scatter.lean ====
/- The first half of the body: the barrier, and the partial products computed and sent. -/
module

public import proofs.«01_k».proof.Proof.Marks

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Ck → ℕ) (c : Dev nD) {α : Type} {Ψ : α → sProp (MT nD τ sig Unit (Elt F) ℕ UU ℕ)}

/-- The barrier: the three receive slots are lent out and the neighbours' borrowed. -/
theorem part1 {kk : (Σ' (d0 : Dev nD) (v2 : BitVec 32) (v5 : BitVec 32) (v8 : BitVec 32) (v11 : BitVec 32) (v22 : BitVec 32), BitVec 32) → Prog (TpuEff nD τ sig (Elt F) Λ₀ .tc) α} :
    iprop(recs m K ∗ owing c (debtsAt c 0) ∗ wtok c .bar 0 ∗ (∃ X, has c (slot 0 false) X) ∗ (∃ X, has c (slot 0 true) X) ∗ wtok c .bar 1 ∗ (∃ X, has c (slot 1 false) X) ∗ (∃ X, has c (slot 1 true) X) ∗ wtok c .bar 2 ∗ (∃ X, has c (slot 2 false) X) ∗ (∃ X, has c (slot 2 true) X) ∗ due c .bar)
      ⊢ iprop((∀ w₁ : BitVec 32, ∀ w₂ : BitVec 32, ∀ w₃ : BitVec 32, ∀ w₄ : BitVec 32, ∀ w₅ : BitVec 32, ∀ w₆ : BitVec 32, owing c (debtsAt c 3) ∗ shut c .bar ∗ (∃ X, has (tgt 0 c) (slot 0 false) X) ∗ (∃ X, has (tgt 0 c) (slot 0 true) X) ∗ (∃ X, has (tgt 1 c) (slot 1 false) X) ∗ (∃ X, has (tgt 1 c) (slot 1 true) X) ∗ (∃ X, has (tgt 2 c) (slot 2 false) X) ∗ (∃ X, has (tgt 2 c) (slot 2 true) X) -∗ Run c (kk ⟨c, w₁, w₂, w₃, w₄, w₅, w₆⟩) Ψ)
          -∗ Run c ((k0_part1 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8) >>= kk) Ψ) := by
  rw [k0_part1_eq_skeleton]
  unfold k0_part1_skel
  simp only [semSignalWord, semWaitWord, Prog.lift, Prog.bind_op, Prog.bind_ret, Prog.pure_eq_ret]
  iintro ⟨#R, O, W0, S0f, S0t, W1, S1f, S1t, W2, S2f, S2t, Ub⟩ Hk
  rw [Run, wp_deviceId]
  iapply (step_give m K c (k := .bar) (by unfold Shake; decide) 0 (dev1_src c) rfl rfl (l' := debtsAt c 0) (l := debtsAt c 1) rfl) $$ [O W0 S0f S0t]
  · isplitr; · iexact R
    isplitl [O]; · iexact O
    isplitl [W0]; · iexact W0
    isplitl [S0f]; · iexact S0f
    iexact S0t
  iintro O
  iapply (step_give m K c (k := .bar) (by unfold Shake; decide) 1 (dev2_src c) rfl rfl (l' := debtsAt c 1) (l := debtsAt c 2) rfl) $$ [O W1 S1f S1t]
  · isplitr; · iexact R
    isplitl [O]; · iexact O
    isplitl [W1]; · iexact W1
    isplitl [S1f]; · iexact S1f
    iexact S1t
  iintro O
  iapply (step_give m K c (k := .bar) (by unfold Shake; decide) 2 (dev3_src c) rfl rfl (l' := debtsAt c 2) (l := debtsAt c 3) rfl) $$ [O W2 S2f S2t]
  · isplitr; · iexact R
    isplitl [O]; · iexact O
    isplitl [W2]; · iexact W2
    isplitl [S2f]; · iexact S2f
    iexact S2t
  iintro O
  iapply (step_meet m K c (k := .bar) (by unfold Shake; decide) rfl rfl (above1 c)) $$ [O Ub]
  · isplitr; · iexact R
    isplitl [O]; · iexact O
    iexact Ub
  iintro ⟨O, Zb, ⟨G0f, G0t⟩, ⟨G1f, G1t⟩, G2f, G2t⟩
  iapply Hk
  isplitl [O]; · iexact O
  isplitl [Zb]; · iexact Zb
  isplitl [G0f]; · iexact G0f
  isplitl [G0t]; · iexact G0t
  isplitl [G1f]; · iexact G1f
  isplitl [G1t]; · iexact G1t
  isplitl [G2f]; · iexact G2f
  iexact G2t

/-- The first two fetches; the first partial product. -/
theorem part3 (v : BitVec 32) {kk : PUnit → Prog (TpuEff nD τ sig (Elt F) Λ₀ .tc) α} :
    iprop(recs m K ∗ fidle m c 0 0 ∗ (∃ X, has c (tile 0) X) ∗ fidle m c 1 0 ∗ (∃ X, has c (tile 1) X) ∗ owing c (debtsAt c 3) ∗ rightB m c ∗ (∃ X, has c (prow false c 0) X))
      ⊢ iprop((fbusy m c 1 0 ∗ owing c (debtsAt c 3) ∗ rightB m c ∗ has c (prow false c 0) (pv m c false 0) ∗ fbusy m c 0 1 -∗ Run c (kk ⟨⟩) Ψ)
          -∗ Run c ((k0_part3 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c v) >>= kk) Ψ) := by
  rw [k0_part3_eq_skeleton]
  unfold k0_part3_skel
  simp only [semSignalWord, semWaitWord, Prog.lift, Prog.bind_op, Prog.bind_ret, Prog.pure_eq_ret]
  iintro ⟨#R, F0, T0, F1, T1, O, B, Pf0⟩ Hk
  iapply (step_fetch m K c 0 0 (by decide) rfl rfl rfl) $$ [F0 T0]
  · isplitr; · iexact R
    isplitl [F0]; · iexact F0
    iexact T0
  iintro F0
  iapply (step_fetch m K c 1 0 (by decide) rfl rfl rfl) $$ [F1 T1]
  · isplitr; · iexact R
    isplitl [F1]; · iexact F1
    iexact T1
  iintro F1
  iapply (step_fwait m K c 0 0 (by decide) rfl rfl (above0 c 3)) $$ [O F0]
  · isplitr; · iexact R
    isplitl [O]; · iexact O
    iexact F0
  iintro ⟨O, F0, T0⟩
  iapply (step_product m c 0 false 0 _ rfl) $$ [T0 B Pf0]
  · isplitl [T0]; · iexact T0
    isplitl [B]; · iexact B
    iexact Pf0
  iintro ⟨T0, B, Pf0⟩
  iapply (step_fetch m K c 0 1 (by decide) rfl rfl rfl) $$ [F0 T0]
  · isplitr; · iexact R
    isplitl [F0]; · iexact F0
    iexact T0
  iintro F0
  iapply Hk
  isplitl [F1]; · iexact F1
  isplitl [O]; · iexact O
  isplitl [B]; · iexact B
  isplitl [Pf0]; · iexact Pf0
  iexact F0

/-- A partial product leaves; the next is computed. -/
theorem part4 (v v' : BitVec 32) {kk : PUnit → Prog (TpuEff nD τ sig (Elt F) Λ₀ .tc) α} :
    iprop(recs m K ∗ has c (prow false c 0) (pv m c false 0) ∗ (∃ X, has (tgt 1 c) (slot 1 false) X) ∗ owing c (debtsAt c 3) ∗ sready c 1 false ∗ fbusy m c 1 0 ∗ rightB m c ∗ (∃ X, has c (prow true c 0) X))
      ⊢ iprop((due c (.ssc 1 false) ∗ owing c (debtsAt c 4) ∗ rightB m c ∗ has c (prow true c 0) (pv m c true 0) ∗ fbusy m c 1 1 -∗ Run c (kk ⟨⟩) Ψ)
          -∗ Run c ((k0_part4 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c v v') >>= kk) Ψ) := by
  rw [k0_part4_eq_skeleton]
  unfold k0_part4_skel
  simp only [semSignalWord, semWaitWord, Prog.lift, Prog.bind_op, Prog.bind_ret, Prog.pure_eq_ret]
  iintro ⟨#R, Pf0, G1f, O, Q1f, F1, B, Pt0⟩ Hk
  iapply (step_scatter_due m K c 1 false rfl (dev4_tgt c) rfl rfl rfl (l' := debtsAt c 3) (l := debtsAt c 4) rfl) $$ [Pf0 G1f O Q1f]
  · isplitr; · iexact R
    isplitl [Pf0]; · iexact Pf0
    isplitl [G1f]; · iexact G1f
    isplitl [O]; · iexact O
    iexact Q1f
  iintro ⟨D1f, O⟩
  iapply (step_fwait m K c 1 0 (by decide) rfl rfl (above0 c 4)) $$ [O F1]
  · isplitr; · iexact R
    isplitl [O]; · iexact O
    iexact F1
  iintro ⟨O, F1, T1⟩
  iapply (step_product m c 1 true 0 _ rfl) $$ [T1 B Pt0]
  · isplitl [T1]; · iexact T1
    isplitl [B]; · iexact B
    iexact Pt0
  iintro ⟨T1, B, Pt0⟩
  iapply (step_fetch m K c 1 1 (by decide) rfl rfl rfl) $$ [F1 T1]
  · isplitr; · iexact R
    isplitl [F1]; · iexact F1
    iexact T1
  iintro F1
  iapply Hk
  isplitl [D1f]; · iexact D1f
  isplitl [O]; · iexact O
  isplitl [B]; · iexact B
  isplitl [Pt0]; · iexact Pt0
  iexact F1

/-- A partial product leaves; the next is computed. -/
theorem part5 (v v' : BitVec 32) {kk : PUnit → Prog (TpuEff nD τ sig (Elt F) Λ₀ .tc) α} :
    iprop(recs m K ∗ has c (prow true c 0) (pv m c true 0) ∗ (∃ X, has (tgt 0 c) (slot 0 true) X) ∗ owing c (debtsAt c 4) ∗ sready c 0 true ∗ fbusy m c 0 1 ∗ rightB m c ∗ (∃ X, has c (prow true c 1) X))
      ⊢ iprop((due c (.ssc 0 true) ∗ owing c (debtsAt c 5) ∗ rightB m c ∗ has c (prow true c 1) (pv m c true 1) ∗ fbusy m c 0 2 -∗ Run c (kk ⟨⟩) Ψ)
          -∗ Run c ((k0_part5 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c v v') >>= kk) Ψ) := by
  rw [k0_part5_eq_skeleton]
  unfold k0_part5_skel
  simp only [semSignalWord, semWaitWord, Prog.lift, Prog.bind_op, Prog.bind_ret, Prog.pure_eq_ret]
  iintro ⟨#R, Pt0, G0t, O, Q0t, F0, B, Pt1⟩ Hk
  iapply (step_scatter_due m K c 0 true rfl (dev5_tgt c) rfl rfl rfl (l' := debtsAt c 4) (l := debtsAt c 5) rfl) $$ [Pt0 G0t O Q0t]
  · isplitr; · iexact R
    isplitl [Pt0]; · iexact Pt0
    isplitl [G0t]; · iexact G0t
    isplitl [O]; · iexact O
    iexact Q0t
  iintro ⟨D0t, O⟩
  iapply (step_fwait m K c 0 1 (by decide) rfl rfl (above0 c 5)) $$ [O F0]
  · isplitr; · iexact R
    isplitl [O]; · iexact O
    iexact F0
  iintro ⟨O, F0, T0⟩
  iapply (step_product m c 0 true 1 _ rfl) $$ [T0 B Pt1]
  · isplitl [T0]; · iexact T0
    isplitl [B]; · iexact B
    iexact Pt1
  iintro ⟨T0, B, Pt1⟩
  iapply (step_fetch m K c 0 2 (by decide) rfl rfl rfl) $$ [F0 T0]
  · isplitr; · iexact R
    isplitl [F0]; · iexact F0
    iexact T0
  iintro F0
  iapply Hk
  isplitl [D0t]; · iexact D0t
  isplitl [O]; · iexact O
  isplitl [B]; · iexact B
  isplitl [Pt1]; · iexact Pt1
  iexact F0

/-- A partial product leaves; the next is computed. -/
theorem part6 (v v' : BitVec 32) {kk : PUnit → Prog (TpuEff nD τ sig (Elt F) Λ₀ .tc) α} :
    iprop(recs m K ∗ has c (prow true c 1) (pv m c true 1) ∗ (∃ X, has (tgt 2 c) (slot 2 true) X) ∗ owing c (debtsAt c 5) ∗ sready c 2 true ∗ fbusy m c 1 1 ∗ rightB m c ∗ (∃ X, has c (prow false c 3) X))
      ⊢ iprop((due c (.ssc 2 true) ∗ owing c (debtsAt c 6) ∗ rightB m c ∗ has c (prow false c 3) (pv m c false 3) ∗ fbusy m c 1 2 -∗ Run c (kk ⟨⟩) Ψ)
          -∗ Run c ((k0_part6 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c v v') >>= kk) Ψ) := by
  rw [k0_part6_eq_skeleton]
  unfold k0_part6_skel
  simp only [semSignalWord, semWaitWord, Prog.lift, Prog.bind_op, Prog.bind_ret, Prog.pure_eq_ret]
  iintro ⟨#R, Pt1, G2t, O, Q2t, F1, B, Pf3⟩ Hk
  iapply (step_scatter_due m K c 2 true rfl (dev6_tgt c) rfl rfl rfl (l' := debtsAt c 5) (l := debtsAt c 6) rfl) $$ [Pt1 G2t O Q2t]
  · isplitr; · iexact R
    isplitl [Pt1]; · iexact Pt1
    isplitl [G2t]; · iexact G2t
    isplitl [O]; · iexact O
    iexact Q2t
  iintro ⟨D2t, O⟩
  iapply (step_fwait m K c 1 1 (by decide) rfl rfl (above0 c 6)) $$ [O F1]
  · isplitr; · iexact R
    isplitl [O]; · iexact O
    iexact F1
  iintro ⟨O, F1, T1⟩
  iapply (step_product m c 1 false 3 _ rfl) $$ [T1 B Pf3]
  · isplitl [T1]; · iexact T1
    isplitl [B]; · iexact B
    iexact Pf3
  iintro ⟨T1, B, Pf3⟩
  iapply (step_fetch m K c 1 2 (by decide) rfl rfl rfl) $$ [F1 T1]
  · isplitr; · iexact R
    isplitl [F1]; · iexact F1
    iexact T1
  iintro F1
  iapply Hk
  isplitl [D2t]; · iexact D2t
  isplitl [O]; · iexact O
  isplitl [B]; · iexact B
  isplitl [Pf3]; · iexact Pf3
  iexact F1

/-- A partial product leaves; the next is computed. -/
theorem part7 (v v' : BitVec 32) {kk : PUnit → Prog (TpuEff nD τ sig (Elt F) Λ₀ .tc) α} :
    iprop(recs m K ∗ has c (prow false c 3) (pv m c false 3) ∗ (∃ X, has (tgt 2 c) (slot 2 false) X) ∗ owing c (debtsAt c 6) ∗ sready c 2 false ∗ fbusy m c 0 2 ∗ rightB m c ∗ (∃ X, has c (prow false c 2) X))
      ⊢ iprop((due c (.ssc 2 false) ∗ owing c (debtsAt c 7) ∗ rightB m c ∗ has c (prow false c 2) (pv m c false 2) ∗ fbusy m c 0 3 -∗ Run c (kk ⟨⟩) Ψ)
          -∗ Run c ((k0_part7 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c v v') >>= kk) Ψ) := by
  rw [k0_part7_eq_skeleton]
  unfold k0_part7_skel
  simp only [semSignalWord, semWaitWord, Prog.lift, Prog.bind_op, Prog.bind_ret, Prog.pure_eq_ret]
  iintro ⟨#R, Pf3, G2f, O, Q2f, F0, B, Pf2⟩ Hk
  iapply (step_scatter_due m K c 2 false rfl (dev7_tgt c) rfl rfl rfl (l' := debtsAt c 6) (l := debtsAt c 7) rfl) $$ [Pf3 G2f O Q2f]
  · isplitr; · iexact R
    isplitl [Pf3]; · iexact Pf3
    isplitl [G2f]; · iexact G2f
    isplitl [O]; · iexact O
    iexact Q2f
  iintro ⟨D2f, O⟩
  iapply (step_fwait m K c 0 2 (by decide) rfl rfl (above0 c 7)) $$ [O F0]
  · isplitr; · iexact R
    isplitl [O]; · iexact O
    iexact F0
  iintro ⟨O, F0, T0⟩
  iapply (step_product m c 0 false 2 _ rfl) $$ [T0 B Pf2]
  · isplitl [T0]; · iexact T0
    isplitl [B]; · iexact B
    iexact Pf2
  iintro ⟨T0, B, Pf2⟩
  iapply (step_fetch m K c 0 3 (by decide) rfl rfl rfl) $$ [F0 T0]
  · isplitr; · iexact R
    isplitl [F0]; · iexact F0
    iexact T0
  iintro F0
  iapply Hk
  isplitl [D2f]; · iexact D2f
  isplitl [O]; · iexact O
  isplitl [B]; · iexact B
  isplitl [Pf2]; · iexact Pf2
  iexact F0

/-- A partial product leaves; the next is computed. -/
theorem part8 (v v' : BitVec 32) {kk : PUnit → Prog (TpuEff nD τ sig (Elt F) Λ₀ .tc) α} :
    iprop(recs m K ∗ has c (prow false c 2) (pv m c false 2) ∗ (∃ X, has (tgt 0 c) (slot 0 false) X) ∗ owing c (debtsAt c 7) ∗ sready c 0 false ∗ fbusy m c 1 2 ∗ rightB m c ∗ (∃ X, has c (prow true c 2) X))
      ⊢ iprop((due c (.ssc 0 false) ∗ owing c (debtsAt c 8) ∗ rightB m c ∗ has c (prow true c 2) (pv m c true 2) ∗ fbusy m c 1 3 -∗ Run c (kk ⟨⟩) Ψ)
          -∗ Run c ((k0_part8 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c v v') >>= kk) Ψ) := by
  rw [k0_part8_eq_skeleton]
  unfold k0_part8_skel
  simp only [semSignalWord, semWaitWord, Prog.lift, Prog.bind_op, Prog.bind_ret, Prog.pure_eq_ret]
  iintro ⟨#R, Pf2, G0f, O, Q0f, F1, B, Pt2⟩ Hk
  iapply (step_scatter_due m K c 0 false rfl (dev8_tgt c) rfl rfl rfl (l' := debtsAt c 7) (l := debtsAt c 8) rfl) $$ [Pf2 G0f O Q0f]
  · isplitr; · iexact R
    isplitl [Pf2]; · iexact Pf2
    isplitl [G0f]; · iexact G0f
    isplitl [O]; · iexact O
    iexact Q0f
  iintro ⟨D0f, O⟩
  iapply (step_fwait m K c 1 2 (by decide) rfl rfl (above0 c 8)) $$ [O F1]
  · isplitr; · iexact R
    isplitl [O]; · iexact O
    iexact F1
  iintro ⟨O, F1, T1⟩
  iapply (step_product m c 1 true 2 _ rfl) $$ [T1 B Pt2]
  · isplitl [T1]; · iexact T1
    isplitl [B]; · iexact B
    iexact Pt2
  iintro ⟨T1, B, Pt2⟩
  iapply (step_fetch m K c 1 3 (by decide) rfl rfl rfl) $$ [F1 T1]
  · isplitr; · iexact R
    isplitl [F1]; · iexact F1
    iexact T1
  iintro F1
  iapply Hk
  isplitl [D0f]; · iexact D0f
  isplitl [O]; · iexact O
  isplitl [B]; · iexact B
  isplitl [Pt2]; · iexact Pt2
  iexact F1

/-- A partial product leaves; the next is computed. -/
theorem part9 (v v' : BitVec 32) {kk : PUnit → Prog (TpuEff nD τ sig (Elt F) Λ₀ .tc) α} :
    iprop(recs m K ∗ has c (prow true c 2) (pv m c true 2) ∗ (∃ X, has (tgt 1 c) (slot 1 true) X) ∗ owing c (debtsAt c 8) ∗ sready c 1 true ∗ fbusy m c 0 3 ∗ rightB m c ∗ (∃ X, has c (prow false c 1) X) ∗ fbusy m c 1 3)
      ⊢ iprop((due c (.ssc 1 true) ∗ fidle m c 0 4 ∗ (∃ X, has c (tile 0) X) ∗ rightB m c ∗ has c (prow false c 1) (pv m c false 1) ∗ owing c (debtsAt c 9) ∗ fidle m c 1 4 ∗ has c (tile 1) (av m c true 3) -∗ Run c (kk ⟨⟩) Ψ)
          -∗ Run c ((k0_part9 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c v v') >>= kk) Ψ) := by
  rw [k0_part9_eq_skeleton]
  unfold k0_part9_skel
  simp only [semSignalWord, semWaitWord, Prog.lift, Prog.bind_op, Prog.bind_ret, Prog.pure_eq_ret]
  iintro ⟨#R, Pt2, G1t, O, Q1t, F0, B, Pf1, F1⟩ Hk
  iapply (step_scatter_due m K c 1 true rfl (dev9_tgt c) rfl rfl rfl (l' := debtsAt c 8) (l := debtsAt c 9) rfl) $$ [Pt2 G1t O Q1t]
  · isplitr; · iexact R
    isplitl [Pt2]; · iexact Pt2
    isplitl [G1t]; · iexact G1t
    isplitl [O]; · iexact O
    iexact Q1t
  iintro ⟨D1t, O⟩
  iapply (step_fwait m K c 0 3 (by decide) rfl rfl (above0 c 9)) $$ [O F0]
  · isplitr; · iexact R
    isplitl [O]; · iexact O
    iexact F0
  iintro ⟨O, F0, T0⟩
  iapply (step_product m c 0 false 1 _ rfl) $$ [T0 B Pf1]
  · isplitl [T0]; · iexact T0
    isplitl [B]; · iexact B
    iexact Pf1
  iintro ⟨T0, B, Pf1⟩
  iapply (step_fwait m K c 1 3 (by decide) rfl rfl (above0 c 9)) $$ [O F1]
  · isplitr; · iexact R
    isplitl [O]; · iexact O
    iexact F1
  iintro ⟨O, F1, T1⟩
  iapply Hk
  isplitl [D1t]; · iexact D1t
  isplitl [F0]; · iexact F0
  isplitl [T0]; · iexact T0
  isplitl [B]; · iexact B
  isplitl [Pf1]; · iexact Pf1
  isplitl [O]; · iexact O
  isplitl [F1]; · iexact F1
  iexact T1

end Cert.Mesh

end
-- ==== Proof.Reduce.lean ====
/- The middle of the body: the arrivals summed into the device's own chunk. -/
module

public import proofs.«01_k».proof.Proof.Marks

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Ck → ℕ) (c : Dev nD) {α : Type} {Ψ : α → sProp (MT nD τ sig Unit (Elt F) ℕ UU ℕ)}

/-- The last partial product; the first arrivals. -/
theorem part10 (v v' : BitVec 32) {kk : PUnit → Prog (TpuEff nD τ sig (Elt F) Λ₀ .tc) α} :
    iprop(recs m K ∗ has c (tile 1) (av m c true 3) ∗ rightB m c ∗ (∃ X, has c (prow true c 3) X) ∗ owing c (debtsAt c 9) ∗ due c (.rsc 0 false) ∗ due c (.rsc 1 false))
      ⊢ iprop(((∃ X, has c (tile 1) X) ∗ rightB m c ∗ has c (prow true c 3) (pv m c true 3) ∗ shut c (.rsc 0 false) ∗ has c (slot 0 false) (pv m (src 0 c) false 2) ∗ owing c (debtsAt c 9) ∗ shut c (.rsc 1 false) ∗ has c (slot 1 false) (pv m (src 1 c) false 0) -∗ Run c (kk ⟨⟩) Ψ)
          -∗ Run c ((k0_part10 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c v v') >>= kk) Ψ) := by
  rw [k0_part10_eq_skeleton]
  unfold k0_part10_skel
  simp only [semSignalWord, semWaitWord, Prog.lift, Prog.bind_op, Prog.bind_ret, Prog.pure_eq_ret]
  iintro ⟨#R, T1, B, Pt3, O, U0f, U1f⟩ Hk
  iapply (step_product m c 1 true 3 _ rfl) $$ [T1 B Pt3]
  · isplitl [T1]; · iexact T1
    isplitl [B]; · iexact B
    iexact Pt3
  iintro ⟨T1, B, Pt3⟩
  iapply (step_take m K c (k := .rsc 0 false) (R := has c (slot 0 false) (pv m (src 0 c) false 2)) rfl ⟨rfl, rfl, rfl⟩ rfl (y := slot 0 false) rfl (above2 c)) $$ [O U0f]
  · isplitr; · iexact R
    isplitl [O]; · iexact O
    iexact U0f
  iintro ⟨O, Zr0f, S0f⟩
  iapply (step_take m K c (k := .rsc 1 false) (R := has c (slot 1 false) (pv m (src 1 c) false 0)) rfl ⟨rfl, rfl, rfl⟩ rfl (y := slot 1 false) rfl (above2 c)) $$ [O U1f]
  · isplitr; · iexact R
    isplitl [O]; · iexact O
    iexact U1f
  iintro ⟨O, Zr1f, S1f⟩
  iapply Hk
  isplitl [T1]; · iexact T1
  isplitl [B]; · iexact B
  isplitl [Pt3]; · iexact Pt3
  isplitl [Zr0f]; · iexact Zr0f
  isplitl [S0f]; · iexact S0f
  isplitl [O]; · iexact O
  isplitl [Zr1f]; · iexact Zr1f
  iexact S1f

/-- The upper half's sum. -/
theorem part11 (v v' : BitVec 32) {kk : (Σ' (v310 : FVec F S256x2048 .f32), BitVec 32) → Prog (TpuEff nD τ sig (Elt F) Λ₀ .tc) α} :
    iprop(recs m K ∗ owing c (debtsAt c 9) ∗ due c (.rsc 2 false) ∗ has c (prow false c 1) (pv m c false 1) ∗ has c (slot 0 false) (pv m (src 0 c) false 2) ∗ has c (slot 1 false) (pv m (src 1 c) false 0))
      ⊢ iprop((∀ w : BitVec 32, owing c (debtsAt c 9) ∗ shut c (.rsc 2 false) ∗ has c (slot 2 false) (pv m (src 2 c) false 3) ∗ has c (prow false c 1) (pv m c false 1) ∗ has c (slot 0 false) (pv m (src 0 c) false 2) ∗ has c (slot 1 false) (pv m (src 1 c) false 0) -∗ Run c (kk ⟨sv m c false, w⟩) Ψ)
          -∗ Run c ((k0_part11 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c v v') >>= kk) Ψ) := by
  rw [k0_part11_eq_skeleton]
  unfold k0_part11_skel
  simp only [semSignalWord, semWaitWord, Prog.lift, Prog.bind_op, Prog.bind_ret, Prog.pure_eq_ret]
  iintro ⟨#R, O, U2f, Pf1, S0f, S1f⟩ Hk
  iapply (step_take m K c (k := .rsc 2 false) (R := has c (slot 2 false) (pv m (src 2 c) false 3)) rfl ⟨rfl, rfl, rfl⟩ rfl (y := slot 2 false) rfl (above2 c)) $$ [O U2f]
  · isplitr; · iexact R
    isplitl [O]; · iexact O
    iexact U2f
  iintro ⟨O, Zr2f, S2f⟩
  iapply (step_load c (rectP false c 1) fullShare (pv m c false 1)) $$ [Pf1]
  · iexact Pf1
  iintro Pf1
  iapply (step_load_slot c 0 false (pv m (src 0 c) false 2)) $$ [S0f]
  · iexact S0f
  iintro %v0 %e0 S0f
  iapply (step_load_slot c 1 false (pv m (src 1 c) false 0)) $$ [S1f]
  · iexact S1f
  iintro %v1 %e1 S1f
  iapply (step_load_slot c 2 false (pv m (src 2 c) false 3)) $$ [S2f]
  · iexact S2f
  iintro %v2 %e2 S2f
  rw [show k0_pay9 (pv m c false 1) v0 v1 v2 = sv m c false from pay9_eq _ _ _ _ _ _ _ e0 e1 e2]
  iapply Hk
  isplitl [O]; · iexact O
  isplitl [Zr2f]; · iexact Zr2f
  isplitl [S2f]; · iexact S2f
  isplitl [Pf1]; · iexact Pf1
  isplitl [S0f]; · iexact S0f
  iexact S1f

/-- The upper half's sum is written out; arrivals for the lower half. -/
theorem part12 (v v' : BitVec 32) {kk : PUnit → Prog (TpuEff nD τ sig (Elt F) Λ₀ .tc) α} :
    iprop(recs m K ∗ (∃ X, has c (orow false c 1) X) ∗ owing c (debtsAt c 9) ∗ due c (.rsc 0 true) ∗ due c (.rsc 1 true))
      ⊢ iprop((has c (orow false c 1) (sv m c false) ∗ shut c (.rsc 0 true) ∗ has c (slot 0 true) (pv m (src 0 c) true 0) ∗ owing c (debtsAt c 9) ∗ shut c (.rsc 1 true) ∗ has c (slot 1 true) (pv m (src 1 c) true 2) -∗ Run c (kk ⟨⟩) Ψ)
          -∗ Run c ((k0_part12 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c v (sv m c false) v') >>= kk) Ψ) := by
  rw [k0_part12_eq_skeleton]
  unfold k0_part12_skel
  simp only [semSignalWord, semWaitWord, Prog.lift, Prog.bind_op, Prog.bind_ret, Prog.pure_eq_ret]
  iintro ⟨#R, Of1, O, U0t, U1t⟩ Hk
  iapply (step_put c false 1 _) $$ [Of1]
  · iexact Of1
  iintro Of1
  iapply (step_take m K c (k := .rsc 0 true) (R := has c (slot 0 true) (pv m (src 0 c) true 0)) rfl ⟨rfl, rfl, rfl⟩ rfl (y := slot 0 true) rfl (above2 c)) $$ [O U0t]
  · isplitr; · iexact R
    isplitl [O]; · iexact O
    iexact U0t
  iintro ⟨O, Zr0t, S0t⟩
  iapply (step_take m K c (k := .rsc 1 true) (R := has c (slot 1 true) (pv m (src 1 c) true 2)) rfl ⟨rfl, rfl, rfl⟩ rfl (y := slot 1 true) rfl (above2 c)) $$ [O U1t]
  · isplitr; · iexact R
    isplitl [O]; · iexact O
    iexact U1t
  iintro ⟨O, Zr1t, S1t⟩
  iapply Hk
  isplitl [Of1]; · iexact Of1
  isplitl [Zr0t]; · iexact Zr0t
  isplitl [S0t]; · iexact S0t
  isplitl [O]; · iexact O
  isplitl [Zr1t]; · iexact Zr1t
  iexact S1t

/-- The lower half's sum, written out. -/
theorem part13 (v : BitVec 32) {kk : (BitVec 32) → Prog (TpuEff nD τ sig (Elt F) Λ₀ .tc) α} :
    iprop(recs m K ∗ owing c (debtsAt c 9) ∗ due c (.rsc 2 true) ∗ has c (prow true c 3) (pv m c true 3) ∗ has c (slot 0 true) (pv m (src 0 c) true 0) ∗ has c (slot 1 true) (pv m (src 1 c) true 2) ∗ (∃ X, has c (orow true c 3) X))
      ⊢ iprop((∀ w : BitVec 32, owing c (debtsAt c 9) ∗ shut c (.rsc 2 true) ∗ has c (slot 2 true) (pv m (src 2 c) true 1) ∗ has c (prow true c 3) (pv m c true 3) ∗ has c (slot 0 true) (pv m (src 0 c) true 0) ∗ has c (slot 1 true) (pv m (src 1 c) true 2) ∗ has c (orow true c 3) (sv m c true) -∗ Run c (kk w) Ψ)
          -∗ Run c ((k0_part13 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c v) >>= kk) Ψ) := by
  rw [k0_part13_eq_skeleton]
  unfold k0_part13_skel
  simp only [semSignalWord, semWaitWord, Prog.lift, Prog.bind_op, Prog.bind_ret, Prog.pure_eq_ret]
  iintro ⟨#R, O, U2t, Pt3, S0t, S1t, Ot3⟩ Hk
  iapply (step_take m K c (k := .rsc 2 true) (R := has c (slot 2 true) (pv m (src 2 c) true 1)) rfl ⟨rfl, rfl, rfl⟩ rfl (y := slot 2 true) rfl (above2 c)) $$ [O U2t]
  · isplitr; · iexact R
    isplitl [O]; · iexact O
    iexact U2t
  iintro ⟨O, Zr2t, S2t⟩
  iapply (step_load c (rectP true c 3) fullShare (pv m c true 3)) $$ [Pt3]
  · iexact Pt3
  iintro Pt3
  iapply (step_load_slot c 0 true (pv m (src 0 c) true 0)) $$ [S0t]
  · iexact S0t
  iintro %v0 %e0 S0t
  iapply (step_load_slot c 1 true (pv m (src 1 c) true 2)) $$ [S1t]
  · iexact S1t
  iintro %v1 %e1 S1t
  iapply (step_load_slot c 2 true (pv m (src 2 c) true 1)) $$ [S2t]
  · iexact S2t
  iintro %v2 %e2 S2t
  rw [show k0_pay10 (pv m c true 3) v0 v1 v2 = sv m c true from pay9_eq _ _ _ _ _ _ _ e0 e1 e2]
  iapply (step_put c true 3 _) $$ [Ot3]
  · iexact Ot3
  iintro Ot3
  iapply Hk
  isplitl [O]; · iexact O
  isplitl [Zr2t]; · iexact Zr2t
  isplitl [S2t]; · iexact S2t
  isplitl [Pt3]; · iexact Pt3
  isplitl [S0t]; · iexact S0t
  isplitl [S1t]; · iexact S1t
  iexact Ot3

/-- Both sums narrowed for the gather. -/
theorem part14 (v v' v'' : BitVec 32) {kk : (Σ' (v401 : BitVec 32), BitVec 32) → Prog (TpuEff nD τ sig (Elt F) Λ₀ .tc) α} :
    iprop(recs m K ∗ has c (orow false c 1) (sv m c false) ∗ (∃ X, has c (prow false c 1) X) ∗ has c (orow true c 3) (sv m c true) ∗ (∃ X, has c (prow true c 3) X))
      ⊢ iprop((∀ w : BitVec 32, ∀ w' : BitVec 32, has c (orow false c 1) (sv m c false) ∗ has c (prow false c 1) (tv m c false) ∗ has c (orow true c 3) (sv m c true) ∗ has c (prow true c 3) (tv m c true) -∗ Run c (kk ⟨w, w'⟩) Ψ)
          -∗ Run c ((k0_part14 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c v v' v'') >>= kk) Ψ) := by
  rw [k0_part14_eq_skeleton]
  unfold k0_part14_skel
  simp only [semSignalWord, semWaitWord, Prog.lift, Prog.bind_op, Prog.bind_ret, Prog.pure_eq_ret]
  iintro ⟨#R, Of1, Pf1, Ot3, Pt3⟩ Hk
  iapply (step_load c (rectP false c 1) fullShare (sv m c false)) $$ [Of1]
  · iexact Of1
  iintro Of1
  iapply (step_keep c false 1 _) $$ [Pf1]
  · iexact Pf1
  iintro Pf1
  iapply (step_load c (rectP true c 3) fullShare (sv m c true)) $$ [Ot3]
  · iexact Ot3
  iintro Ot3
  iapply (step_keep c true 3 _) $$ [Pt3]
  · iexact Pt3
  iintro Pt3
  iapply Hk
  isplitl [Of1]; · iexact Of1
  isplitl [Pf1]; · iexact Pf1
  isplitl [Ot3]; · iexact Ot3
  iexact Pt3

end Cert.Mesh

end
-- ==== Proof.Gather.lean ====
/- The second half of the body: acknowledgements, the sums exchanged, the output filled, the departures awaited. -/
module

public import proofs.«01_k».proof.Proof.Marks

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Ck → ℕ) (c : Dev nD) {α : Type} {Ψ : α → sProp (MT nD τ sig Unit (Elt F) ℕ UU ℕ)}

/-- The acknowledgements: the slots are lent again; the first gather transfer. -/
theorem part15 (w₁ w₂ w₃ w₄ w₅ w₆ : BitVec 32) {kk : (BitVec 32) → Prog (TpuEff nD τ sig (Elt F) Λ₀ .tc) α} :
    iprop(recs m K ∗ owing c (debtsAt c 9) ∗ wtok c .ack 0 ∗ (∃ X, has c (slot 0 false) X) ∗ (∃ X, has c (slot 0 true) X) ∗ wtok c .ack 1 ∗ (∃ X, has c (slot 1 false) X) ∗ (∃ X, has c (slot 1 true) X) ∗ wtok c .ack 2 ∗ (∃ X, has c (slot 2 false) X) ∗ (∃ X, has c (slot 2 true) X) ∗ due c .ack ∗ owns (c : Thread nD τ) (prow false c 1) (gsh 1) (tv m c false) ∗ gready c 1 false)
      ⊢ iprop((∀ w : BitVec 32, shut c .ack ∗ (∃ X, has (tgt 0 c) (slot 0 false) X) ∗ (∃ X, has (tgt 0 c) (slot 0 true) X) ∗ (∃ X, has (tgt 1 c) (slot 1 true) X) ∗ (∃ X, has (tgt 2 c) (slot 2 false) X) ∗ (∃ X, has (tgt 2 c) (slot 2 true) X) ∗ due c (.sga 1 false) ∗ owing c (debtsAt c 13) -∗ Run c (kk w) Ψ)
          -∗ Run c ((k0_part15 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c w₁ w₂ w₃ w₄ w₅ w₆) >>= kk) Ψ) := by
  rw [k0_part15_eq_skeleton]
  unfold k0_part15_skel
  simp only [semSignalWord, semWaitWord, Prog.lift, Prog.bind_op, Prog.bind_ret, Prog.pure_eq_ret]
  iintro ⟨#R, O, X0, S0f, S0t, X1, S1f, S1t, X2, S2f, S2t, Ua, A1f, Y1f⟩ Hk
  iapply (step_give m K c (k := .ack) (by unfold Shake; decide) 0 (dev10_src c) rfl rfl (l' := debtsAt c 9) (l := debtsAt c 10) rfl) $$ [O X0 S0f S0t]
  · isplitr; · iexact R
    isplitl [O]; · iexact O
    isplitl [X0]; · iexact X0
    isplitl [S0f]; · iexact S0f
    iexact S0t
  iintro O
  iapply (step_give m K c (k := .ack) (by unfold Shake; decide) 1 (dev11_src c) rfl rfl (l' := debtsAt c 10) (l := debtsAt c 11) rfl) $$ [O X1 S1f S1t]
  · isplitr; · iexact R
    isplitl [O]; · iexact O
    isplitl [X1]; · iexact X1
    isplitl [S1f]; · iexact S1f
    iexact S1t
  iintro O
  iapply (step_give m K c (k := .ack) (by unfold Shake; decide) 2 (dev12_src c) rfl rfl (l' := debtsAt c 11) (l := debtsAt c 12) rfl) $$ [O X2 S2f S2t]
  · isplitr; · iexact R
    isplitl [O]; · iexact O
    isplitl [X2]; · iexact X2
    isplitl [S2f]; · iexact S2f
    iexact S2t
  iintro O
  iapply (step_meet m K c (k := .ack) (by unfold Shake; decide) rfl rfl (above3 c)) $$ [O Ua]
  · isplitr; · iexact R
    isplitl [O]; · iexact O
    iexact Ua
  iintro ⟨O, Za, ⟨G0f, G0t⟩, ⟨G1f, G1t⟩, G2f, G2t⟩
  iapply (step_gather_due m K c 1 false rfl (dev13_tgt c) rfl rfl rfl (l' := debtsAt c 12) (l := debtsAt c 13) rfl) $$ [A1f G1f O Y1f]
  · isplitr; · iexact R
    isplitl [A1f]; · iexact A1f
    isplitl [G1f]; · iexact G1f
    isplitl [O]; · iexact O
    iexact Y1f
  iintro ⟨E1f, O⟩
  iapply Hk
  isplitl [Za]; · iexact Za
  isplitl [G0f]; · iexact G0f
  isplitl [G0t]; · iexact G0t
  isplitl [G1t]; · iexact G1t
  isplitl [G2f]; · iexact G2f
  isplitl [G2t]; · iexact G2t
  isplitl [E1f]; · iexact E1f
  iexact O

/-- Two gather transfers. -/
theorem part16 (w₁ w₂ w₃ w₄ : BitVec 32) {kk : PUnit → Prog (TpuEff nD τ sig (Elt F) Λ₀ .tc) α} :
    iprop(recs m K ∗ owns (c : Thread nD τ) (prow false c 1) (gsh 0) (tv m c false) ∗ (∃ X, has (tgt 0 c) (slot 0 false) X) ∗ owing c (debtsAt c 13) ∗ gready c 0 false ∗ owns (c : Thread nD τ) (prow false c 1) (gsh 2) (tv m c false) ∗ (∃ X, has (tgt 2 c) (slot 2 false) X) ∗ gready c 2 false)
      ⊢ iprop((due c (.sga 0 false) ∗ due c (.sga 2 false) ∗ owing c (debtsAt c 15) -∗ Run c (kk ⟨⟩) Ψ)
          -∗ Run c ((k0_part16 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c w₁ w₂ w₃ w₄) >>= kk) Ψ) := by
  rw [k0_part16_eq_skeleton]
  unfold k0_part16_skel
  simp only [semSignalWord, semWaitWord, Prog.lift, Prog.bind_op, Prog.bind_ret, Prog.pure_eq_ret]
  iintro ⟨#R, A0f, G0f, O, Y0f, A2f, G2f, Y2f⟩ Hk
  iapply (step_gather_due m K c 0 false rfl (dev14_tgt c) rfl rfl rfl (l' := debtsAt c 13) (l := debtsAt c 14) rfl) $$ [A0f G0f O Y0f]
  · isplitr; · iexact R
    isplitl [A0f]; · iexact A0f
    isplitl [G0f]; · iexact G0f
    isplitl [O]; · iexact O
    iexact Y0f
  iintro ⟨E0f, O⟩
  iapply (step_gather_due m K c 2 false rfl (dev15_tgt c) rfl rfl rfl (l' := debtsAt c 14) (l := debtsAt c 15) rfl) $$ [A2f G2f O Y2f]
  · isplitr; · iexact R
    isplitl [A2f]; · iexact A2f
    isplitl [G2f]; · iexact G2f
    isplitl [O]; · iexact O
    iexact Y2f
  iintro ⟨E2f, O⟩
  iapply Hk
  isplitl [E0f]; · iexact E0f
  isplitl [E2f]; · iexact E2f
  iexact O

/-- Two gather transfers. -/
theorem part17 (w₁ w₂ w₃ : BitVec 32) {kk : PUnit → Prog (TpuEff nD τ sig (Elt F) Λ₀ .tc) α} :
    iprop(recs m K ∗ owns (c : Thread nD τ) (prow true c 3) (gsh 1) (tv m c true) ∗ (∃ X, has (tgt 1 c) (slot 1 true) X) ∗ owing c (debtsAt c 15) ∗ gready c 1 true ∗ owns (c : Thread nD τ) (prow true c 3) (gsh 0) (tv m c true) ∗ (∃ X, has (tgt 0 c) (slot 0 true) X) ∗ gready c 0 true)
      ⊢ iprop((due c (.sga 1 true) ∗ due c (.sga 0 true) ∗ owing c (debtsAt c 17) -∗ Run c (kk ⟨⟩) Ψ)
          -∗ Run c ((k0_part17 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c w₁ w₂ w₃) >>= kk) Ψ) := by
  rw [k0_part17_eq_skeleton]
  unfold k0_part17_skel
  simp only [semSignalWord, semWaitWord, Prog.lift, Prog.bind_op, Prog.bind_ret, Prog.pure_eq_ret]
  iintro ⟨#R, A1t, G1t, O, Y1t, A0t, G0t, Y0t⟩ Hk
  iapply (step_gather_due m K c 1 true rfl (dev16_tgt c) rfl rfl rfl (l' := debtsAt c 15) (l := debtsAt c 16) rfl) $$ [A1t G1t O Y1t]
  · isplitr; · iexact R
    isplitl [A1t]; · iexact A1t
    isplitl [G1t]; · iexact G1t
    isplitl [O]; · iexact O
    iexact Y1t
  iintro ⟨E1t, O⟩
  iapply (step_gather_due m K c 0 true rfl (dev17_tgt c) rfl rfl rfl (l' := debtsAt c 16) (l := debtsAt c 17) rfl) $$ [A0t G0t O Y0t]
  · isplitr; · iexact R
    isplitl [A0t]; · iexact A0t
    isplitl [G0t]; · iexact G0t
    isplitl [O]; · iexact O
    iexact Y0t
  iintro ⟨E0t, O⟩
  iapply Hk
  isplitl [E1t]; · iexact E1t
  isplitl [E0t]; · iexact E0t
  iexact O

/-- The last gather transfer; the first gathered block. -/
theorem part18 (w₁ w₂ : BitVec 32) {kk : PUnit → Prog (TpuEff nD τ sig (Elt F) Λ₀ .tc) α} :
    iprop(recs m K ∗ owns (c : Thread nD τ) (prow true c 3) (gsh 2) (tv m c true) ∗ (∃ X, has (tgt 2 c) (slot 2 true) X) ∗ owing c (debtsAt c 17) ∗ gready c 2 true ∗ due c (.rga 0 false) ∗ (∃ X, has c (orow false c 0) X))
      ⊢ iprop((due c (.sga 2 true) ∗ owing c (debtsAt c 18) ∗ shut c (.rga 0 false) ∗ has c (slot 0 false) (tv m (src 0 c) false) ∗ has c (orow false c 0) (widen (tv m (src 0 c) false)) -∗ Run c (kk ⟨⟩) Ψ)
          -∗ Run c ((k0_part18 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c w₁ w₂) >>= kk) Ψ) := by
  rw [k0_part18_eq_skeleton]
  unfold k0_part18_skel
  simp only [semSignalWord, semWaitWord, Prog.lift, Prog.bind_op, Prog.bind_ret, Prog.pure_eq_ret]
  iintro ⟨#R, A2t, G2t, O, Y2t, V0f, Of0⟩ Hk
  iapply (step_gather_due m K c 2 true rfl (dev18_tgt c) rfl rfl rfl (l' := debtsAt c 17) (l := debtsAt c 18) rfl) $$ [A2t G2t O Y2t]
  · isplitr; · iexact R
    isplitl [A2t]; · iexact A2t
    isplitl [G2t]; · iexact G2t
    isplitl [O]; · iexact O
    iexact Y2t
  iintro ⟨E2t, O⟩
  iapply (step_take m K c (k := .rga 0 false) (R := has c (slot 0 false) (tv m (src 0 c) false)) rfl ⟨rfl, rfl, rfl⟩ rfl (y := slot 0 false) rfl (above4 c _)) $$ [O V0f]
  · isplitr; · iexact R
    isplitl [O]; · iexact O
    iexact V0f
  iintro ⟨O, Zg0f, S0f⟩
  iapply (step_out c 0 false 0 (tv m (src 0 c) false) rfl) $$ [S0f Of0]
  · isplitl [S0f]; · iexact S0f
    iexact Of0
  iintro ⟨S0f, Of0⟩
  iapply Hk
  isplitl [E2t]; · iexact E2t
  isplitl [O]; · iexact O
  isplitl [Zg0f]; · iexact Zg0f
  isplitl [S0f]; · iexact S0f
  iexact Of0

/-- A gathered block written out; the next read. -/
theorem part19 (w₁ w₂ : BitVec 32) {kk : (Σ' (v529 : FVec F S256x2048 .f32) (v532 : BitVec 32), BitVec 32) → Prog (TpuEff nD τ sig (Elt F) Λ₀ .tc) α} :
    iprop(recs m K ∗ owing c (debtsAt c 18) ∗ due c (.rga 1 false) ∗ (∃ X, has c (orow false c 2) X) ∗ due c (.rga 2 false))
      ⊢ iprop((∀ w : BitVec 32, ∀ w' : BitVec 32, shut c (.rga 1 false) ∗ has c (slot 1 false) (tv m (src 1 c) false) ∗ has c (orow false c 2) (widen (tv m (src 1 c) false)) ∗ owing c (debtsAt c 18) ∗ shut c (.rga 2 false) ∗ has c (slot 2 false) (tv m (src 2 c) false) -∗ Run c (kk ⟨widen (tv m (src 2 c) false), w, w'⟩) Ψ)
          -∗ Run c ((k0_part19 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c w₁ w₂) >>= kk) Ψ) := by
  rw [k0_part19_eq_skeleton]
  unfold k0_part19_skel
  simp only [semSignalWord, semWaitWord, Prog.lift, Prog.bind_op, Prog.bind_ret, Prog.pure_eq_ret]
  iintro ⟨#R, O, V1f, Of2, V2f⟩ Hk
  iapply (step_take m K c (k := .rga 1 false) (R := has c (slot 1 false) (tv m (src 1 c) false)) rfl ⟨rfl, rfl, rfl⟩ rfl (y := slot 1 false) rfl (above4 c _)) $$ [O V1f]
  · isplitr; · iexact R
    isplitl [O]; · iexact O
    iexact V1f
  iintro ⟨O, Zg1f, S1f⟩
  iapply (step_out c 1 false 2 (tv m (src 1 c) false) rfl) $$ [S1f Of2]
  · isplitl [S1f]; · iexact S1f
    iexact Of2
  iintro ⟨S1f, Of2⟩
  iapply (step_take m K c (k := .rga 2 false) (R := has c (slot 2 false) (tv m (src 2 c) false)) rfl ⟨rfl, rfl, rfl⟩ rfl (y := slot 2 false) rfl (above4 c _)) $$ [O V2f]
  · isplitr; · iexact R
    isplitl [O]; · iexact O
    iexact V2f
  iintro ⟨O, Zg2f, S2f⟩
  iapply (step_load_slot c 2 false (tv m (src 2 c) false)) $$ [S2f]
  · iexact S2f
  iintro %v0 %e0 S2f
  rw [show k0_pay15 v0 = widen (tv m (src 2 c) false) from pay13_eq _ _ e0]
  iapply Hk
  isplitl [Zg1f]; · iexact Zg1f
  isplitl [S1f]; · iexact S1f
  isplitl [Of2]; · iexact Of2
  isplitl [O]; · iexact O
  isplitl [Zg2f]; · iexact Zg2f
  iexact S2f

/-- Two gathered blocks written out. -/
theorem part20 (w₁ w₂ w₃ w₄ : BitVec 32) {kk : PUnit → Prog (TpuEff nD τ sig (Elt F) Λ₀ .tc) α} :
    iprop(recs m K ∗ (∃ X, has c (orow false c 3) X) ∗ owing c (debtsAt c 18) ∗ due c (.rga 0 true) ∗ (∃ X, has c (orow true c 2) X))
      ⊢ iprop((has c (orow false c 3) (widen (tv m (src 2 c) false)) ∗ owing c (debtsAt c 18) ∗ shut c (.rga 0 true) ∗ has c (slot 0 true) (tv m (src 0 c) true) ∗ has c (orow true c 2) (widen (tv m (src 0 c) true)) -∗ Run c (kk ⟨⟩) Ψ)
          -∗ Run c ((k0_part20 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c w₁ w₂ (widen (tv m (src 2 c) false)) w₃ w₄) >>= kk) Ψ) := by
  rw [k0_part20_eq_skeleton]
  unfold k0_part20_skel
  simp only [semSignalWord, semWaitWord, Prog.lift, Prog.bind_op, Prog.bind_ret, Prog.pure_eq_ret]
  iintro ⟨#R, Of3, O, V0t, Ot2⟩ Hk
  iapply (step_put c false 3 _) $$ [Of3]
  · iexact Of3
  iintro Of3
  iapply (step_take m K c (k := .rga 0 true) (R := has c (slot 0 true) (tv m (src 0 c) true)) rfl ⟨rfl, rfl, rfl⟩ rfl (y := slot 0 true) rfl (above4 c _)) $$ [O V0t]
  · isplitr; · iexact R
    isplitl [O]; · iexact O
    iexact V0t
  iintro ⟨O, Zg0t, S0t⟩
  iapply (step_out c 0 true 2 (tv m (src 0 c) true) rfl) $$ [S0t Ot2]
  · isplitl [S0t]; · iexact S0t
    iexact Ot2
  iintro ⟨S0t, Ot2⟩
  iapply Hk
  isplitl [Of3]; · iexact Of3
  isplitl [O]; · iexact O
  isplitl [Zg0t]; · iexact Zg0t
  isplitl [S0t]; · iexact S0t
  iexact Ot2

/-- A gathered block written out; the last read. -/
theorem part21 (w₁ w₂ : BitVec 32) {kk : (Σ' (v579 : FVec F S256x2048 .f32) (v583 : BitVec 32), BitVec 32) → Prog (TpuEff nD τ sig (Elt F) Λ₀ .tc) α} :
    iprop(recs m K ∗ owing c (debtsAt c 18) ∗ due c (.rga 1 true) ∗ (∃ X, has c (orow true c 0) X) ∗ due c (.rga 2 true))
      ⊢ iprop((∀ w : BitVec 32, ∀ w' : BitVec 32, shut c (.rga 1 true) ∗ has c (slot 1 true) (tv m (src 1 c) true) ∗ has c (orow true c 0) (widen (tv m (src 1 c) true)) ∗ owing c (debtsAt c 18) ∗ shut c (.rga 2 true) ∗ has c (slot 2 true) (tv m (src 2 c) true) -∗ Run c (kk ⟨widen (tv m (src 2 c) true), w, w'⟩) Ψ)
          -∗ Run c ((k0_part21 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c w₁ w₂) >>= kk) Ψ) := by
  rw [k0_part21_eq_skeleton]
  unfold k0_part21_skel
  simp only [semSignalWord, semWaitWord, Prog.lift, Prog.bind_op, Prog.bind_ret, Prog.pure_eq_ret]
  iintro ⟨#R, O, V1t, Ot0, V2t⟩ Hk
  iapply (step_take m K c (k := .rga 1 true) (R := has c (slot 1 true) (tv m (src 1 c) true)) rfl ⟨rfl, rfl, rfl⟩ rfl (y := slot 1 true) rfl (above4 c _)) $$ [O V1t]
  · isplitr; · iexact R
    isplitl [O]; · iexact O
    iexact V1t
  iintro ⟨O, Zg1t, S1t⟩
  iapply (step_out c 1 true 0 (tv m (src 1 c) true) rfl) $$ [S1t Ot0]
  · isplitl [S1t]; · iexact S1t
    iexact Ot0
  iintro ⟨S1t, Ot0⟩
  iapply (step_take m K c (k := .rga 2 true) (R := has c (slot 2 true) (tv m (src 2 c) true)) rfl ⟨rfl, rfl, rfl⟩ rfl (y := slot 2 true) rfl (above4 c _)) $$ [O V2t]
  · isplitr; · iexact R
    isplitl [O]; · iexact O
    iexact V2t
  iintro ⟨O, Zg2t, S2t⟩
  iapply (step_load_slot c 2 true (tv m (src 2 c) true)) $$ [S2t]
  · iexact S2t
  iintro %v0 %e0 S2t
  rw [show k0_pay18 v0 = widen (tv m (src 2 c) true) from pay13_eq _ _ e0]
  iapply Hk
  isplitl [Zg1t]; · iexact Zg1t
  isplitl [S1t]; · iexact S1t
  isplitl [Ot0]; · iexact Ot0
  isplitl [O]; · iexact O
  isplitl [Zg2t]; · iexact Zg2t
  iexact S2t

/-- The last gathered block written out; departures. -/
theorem part22 (w₁ w₂ : BitVec 32) {kk : PUnit → Prog (TpuEff nD τ sig (Elt F) Λ₀ .tc) α} :
    iprop(recs m K ∗ (∃ X, has c (orow true c 1) X) ∗ owing c (debtsAt c 18) ∗ due c (.ssc 1 false) ∗ due c (.ssc 0 true) ∗ due c (.ssc 2 true))
      ⊢ iprop((has c (orow true c 1) (widen (tv m (src 2 c) true)) ∗ shut c (.ssc 1 false) ∗ has c (prow false c 0) (pv m c false 0) ∗ shut c (.ssc 0 true) ∗ has c (prow true c 0) (pv m c true 0) ∗ owing c (debtsAt c 18) ∗ shut c (.ssc 2 true) ∗ has c (prow true c 1) (pv m c true 1) -∗ Run c (kk ⟨⟩) Ψ)
          -∗ Run c ((k0_part22 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c (widen (tv m (src 2 c) true)) w₁ w₂) >>= kk) Ψ) := by
  rw [k0_part22_eq_skeleton]
  unfold k0_part22_skel
  simp only [semSignalWord, semWaitWord, Prog.lift, Prog.bind_op, Prog.bind_ret, Prog.pure_eq_ret]
  iintro ⟨#R, Ot1, O, D1f, D0t, D2t⟩ Hk
  iapply (step_put c true 1 _) $$ [Ot1]
  · iexact Ot1
  iintro Ot1
  iapply (step_take m K c (k := .ssc 1 false) (R := has c (prow false c 0) (pv m c false 0)) rfl ⟨rfl, rfl, rfl⟩ rfl (y := prow false c 0) rfl (above4 c _)) $$ [O D1f]
  · isplitr; · iexact R
    isplitl [O]; · iexact O
    iexact D1f
  iintro ⟨O, Zs1f, Pf0⟩
  iapply (step_take m K c (k := .ssc 0 true) (R := has c (prow true c 0) (pv m c true 0)) rfl ⟨rfl, rfl, rfl⟩ rfl (y := prow true c 0) rfl (above4 c _)) $$ [O D0t]
  · isplitr; · iexact R
    isplitl [O]; · iexact O
    iexact D0t
  iintro ⟨O, Zs0t, Pt0⟩
  iapply (step_take m K c (k := .ssc 2 true) (R := has c (prow true c 1) (pv m c true 1)) rfl ⟨rfl, rfl, rfl⟩ rfl (y := prow true c 1) rfl (above4 c _)) $$ [O D2t]
  · isplitr; · iexact R
    isplitl [O]; · iexact O
    iexact D2t
  iintro ⟨O, Zs2t, Pt1⟩
  iapply Hk
  isplitl [Ot1]; · iexact Ot1
  isplitl [Zs1f]; · iexact Zs1f
  isplitl [Pf0]; · iexact Pf0
  isplitl [Zs0t]; · iexact Zs0t
  isplitl [Pt0]; · iexact Pt0
  isplitl [O]; · iexact O
  isplitl [Zs2t]; · iexact Zs2t
  iexact Pt1

/-- Departures. -/
theorem part23 {kk : PUnit → Prog (TpuEff nD τ sig (Elt F) Λ₀ .tc) α} :
    iprop(recs m K ∗ owing c (debtsAt c 18) ∗ due c (.ssc 2 false) ∗ due c (.ssc 0 false) ∗ due c (.ssc 1 true) ∗ due c (.sga 1 false))
      ⊢ iprop((shut c (.ssc 2 false) ∗ has c (prow false c 3) (pv m c false 3) ∗ shut c (.ssc 0 false) ∗ has c (prow false c 2) (pv m c false 2) ∗ shut c (.ssc 1 true) ∗ has c (prow true c 2) (pv m c true 2) ∗ owing c (debtsAt c 18) ∗ shut c (.sga 1 false) ∗ owns (c : Thread nD τ) (prow false c 1) (gsh 1) (tv m c false) -∗ Run c (kk ⟨⟩) Ψ)
          -∗ Run c ((k0_part23 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c) >>= kk) Ψ) := by
  rw [k0_part23_eq_skeleton]
  unfold k0_part23_skel
  simp only [semSignalWord, semWaitWord, Prog.lift, Prog.bind_op, Prog.bind_ret, Prog.pure_eq_ret]
  iintro ⟨#R, O, D2f, D0f, D1t, E1f⟩ Hk
  iapply (step_take m K c (k := .ssc 2 false) (R := has c (prow false c 3) (pv m c false 3)) rfl ⟨rfl, rfl, rfl⟩ rfl (y := prow false c 3) rfl (above4 c _)) $$ [O D2f]
  · isplitr; · iexact R
    isplitl [O]; · iexact O
    iexact D2f
  iintro ⟨O, Zs2f, Pf3⟩
  iapply (step_take m K c (k := .ssc 0 false) (R := has c (prow false c 2) (pv m c false 2)) rfl ⟨rfl, rfl, rfl⟩ rfl (y := prow false c 2) rfl (above4 c _)) $$ [O D0f]
  · isplitr; · iexact R
    isplitl [O]; · iexact O
    iexact D0f
  iintro ⟨O, Zs0f, Pf2⟩
  iapply (step_take m K c (k := .ssc 1 true) (R := has c (prow true c 2) (pv m c true 2)) rfl ⟨rfl, rfl, rfl⟩ rfl (y := prow true c 2) rfl (above4 c _)) $$ [O D1t]
  · isplitr; · iexact R
    isplitl [O]; · iexact O
    iexact D1t
  iintro ⟨O, Zs1t, Pt2⟩
  iapply (step_take m K c (k := .sga 1 false) (R := owns (c : Thread nD τ) (prow false c 1) (gsh 1) (tv m c false)) rfl ⟨rfl, rfl, rfl⟩ rfl (y := prow false c 1) rfl (above4 c _)) $$ [O E1f]
  · isplitr; · iexact R
    isplitl [O]; · iexact O
    iexact E1f
  iintro ⟨O, Zt1f, A1f⟩
  iapply Hk
  isplitl [Zs2f]; · iexact Zs2f
  isplitl [Pf3]; · iexact Pf3
  isplitl [Zs0f]; · iexact Zs0f
  isplitl [Pf2]; · iexact Pf2
  isplitl [Zs1t]; · iexact Zs1t
  isplitl [Pt2]; · iexact Pt2
  isplitl [O]; · iexact O
  isplitl [Zt1f]; · iexact Zt1f
  iexact A1f

/-- Departures. -/
theorem part24 {kk : PUnit → Prog (TpuEff nD τ sig (Elt F) Λ₀ .tc) α} :
    iprop(recs m K ∗ owing c (debtsAt c 18) ∗ due c (.sga 0 false) ∗ due c (.sga 2 false) ∗ due c (.sga 1 true) ∗ due c (.sga 0 true))
      ⊢ iprop((shut c (.sga 0 false) ∗ owns (c : Thread nD τ) (prow false c 1) (gsh 0) (tv m c false) ∗ shut c (.sga 2 false) ∗ owns (c : Thread nD τ) (prow false c 1) (gsh 2) (tv m c false) ∗ shut c (.sga 1 true) ∗ owns (c : Thread nD τ) (prow true c 3) (gsh 1) (tv m c true) ∗ owing c (debtsAt c 18) ∗ shut c (.sga 0 true) ∗ owns (c : Thread nD τ) (prow true c 3) (gsh 0) (tv m c true) -∗ Run c (kk ⟨⟩) Ψ)
          -∗ Run c ((k0_part24 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 c) >>= kk) Ψ) := by
  rw [k0_part24_eq_skeleton]
  unfold k0_part24_skel
  simp only [semSignalWord, semWaitWord, Prog.lift, Prog.bind_op, Prog.bind_ret, Prog.pure_eq_ret]
  iintro ⟨#R, O, E0f, E2f, E1t, E0t⟩ Hk
  iapply (step_take m K c (k := .sga 0 false) (R := owns (c : Thread nD τ) (prow false c 1) (gsh 0) (tv m c false)) rfl ⟨rfl, rfl, rfl⟩ rfl (y := prow false c 1) rfl (above4 c _)) $$ [O E0f]
  · isplitr; · iexact R
    isplitl [O]; · iexact O
    iexact E0f
  iintro ⟨O, Zt0f, A0f⟩
  iapply (step_take m K c (k := .sga 2 false) (R := owns (c : Thread nD τ) (prow false c 1) (gsh 2) (tv m c false)) rfl ⟨rfl, rfl, rfl⟩ rfl (y := prow false c 1) rfl (above4 c _)) $$ [O E2f]
  · isplitr; · iexact R
    isplitl [O]; · iexact O
    iexact E2f
  iintro ⟨O, Zt2f, A2f⟩
  iapply (step_take m K c (k := .sga 1 true) (R := owns (c : Thread nD τ) (prow true c 3) (gsh 1) (tv m c true)) rfl ⟨rfl, rfl, rfl⟩ rfl (y := prow true c 3) rfl (above4 c _)) $$ [O E1t]
  · isplitr; · iexact R
    isplitl [O]; · iexact O
    iexact E1t
  iintro ⟨O, Zt1t, A1t⟩
  iapply (step_take m K c (k := .sga 0 true) (R := owns (c : Thread nD τ) (prow true c 3) (gsh 0) (tv m c true)) rfl ⟨rfl, rfl, rfl⟩ rfl (y := prow true c 3) rfl (above4 c _)) $$ [O E0t]
  · isplitr; · iexact R
    isplitl [O]; · iexact O
    iexact E0t
  iintro ⟨O, Zt0t, A0t⟩
  iapply Hk
  isplitl [Zt0f]; · iexact Zt0f
  isplitl [A0f]; · iexact A0f
  isplitl [Zt2f]; · iexact Zt2f
  isplitl [A2f]; · iexact A2f
  isplitl [Zt1t]; · iexact Zt1t
  isplitl [A1t]; · iexact A1t
  isplitl [O]; · iexact O
  isplitl [Zt0t]; · iexact Zt0t
  iexact A0t

end Cert.Mesh

end
-- ==== Proof.Body.lean ====
/- The body, run: its parts in order. -/
module

public import proofs.«01_k».proof.Proof.Scatter
public import proofs.«01_k».proof.Proof.Reduce
public import proofs.«01_k».proof.Proof.Gather

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Ck → ℕ) (c : Dev nD) {α : Type} {Ψ : α → sProp (MT nD τ sig Unit (Elt F) ℕ UU ℕ)}

/-- The tokens and dues a device starts with: its six signals', its eight waits', its twelve transfers'. -/
def kit (c : Dev nD) : sProp 𝕄 :=
  iprop(wtok c .bar 0
    ∗ wtok c .bar 1
    ∗ wtok c .bar 2
    ∗ wtok c .ack 0
    ∗ wtok c .ack 1
    ∗ wtok c .ack 2
    ∗ due c .bar
    ∗ due c .ack
    ∗ due c (.rsc 0 false)
    ∗ due c (.rsc 1 false)
    ∗ due c (.rsc 2 false)
    ∗ due c (.rsc 0 true)
    ∗ due c (.rsc 1 true)
    ∗ due c (.rsc 2 true)
    ∗ due c (.rga 0 false)
    ∗ due c (.rga 1 false)
    ∗ due c (.rga 2 false)
    ∗ due c (.rga 0 true)
    ∗ due c (.rga 1 true)
    ∗ due c (.rga 2 true)
    ∗ sready c 0 false
    ∗ sready c 1 false
    ∗ sready c 2 false
    ∗ sready c 0 true
    ∗ sready c 1 true
    ∗ sready c 2 true
    ∗ gready c 0 false
    ∗ gready c 1 false
    ∗ gready c 2 false
    ∗ gready c 0 true
    ∗ gready c 1 true
    ∗ gready c 2 true)

/-- The scratch buffers in the pieces the kernel works on, at any contents: the fetched blocks, the partial products,
    the receive slots. -/
def board (c : Dev nD) : sProp 𝕄 :=
  iprop((∃ X, has c (tile 0) X)
    ∗ (∃ X, has c (tile 1) X)
    ∗ (∃ X, has c (prow false c 0) X)
    ∗ (∃ X, has c (prow false c 1) X)
    ∗ (∃ X, has c (prow false c 2) X)
    ∗ (∃ X, has c (prow false c 3) X)
    ∗ (∃ X, has c (prow true c 0) X)
    ∗ (∃ X, has c (prow true c 1) X)
    ∗ (∃ X, has c (prow true c 2) X)
    ∗ (∃ X, has c (prow true c 3) X)
    ∗ (∃ X, has c (slot 0 false) X)
    ∗ (∃ X, has c (slot 1 false) X)
    ∗ (∃ X, has c (slot 2 false) X)
    ∗ (∃ X, has c (slot 0 true) X)
    ∗ (∃ X, has c (slot 1 true) X)
    ∗ (∃ X, has c (slot 2 true) X))

/-- The output's pieces before, -/
def blank (c : Dev nD) : sProp 𝕄 :=
  iprop((∃ X, has c (orow false c 0) X)
    ∗ (∃ X, has c (orow false c 1) X)
    ∗ (∃ X, has c (orow false c 2) X)
    ∗ (∃ X, has c (orow false c 3) X)
    ∗ (∃ X, has c (orow true c 0) X)
    ∗ (∃ X, has c (orow true c 1) X)
    ∗ (∃ X, has c (orow true c 2) X)
    ∗ (∃ X, has c (orow true c 3) X))

/-- and after: its own sums, and the neighbours'. -/
def filled (c : Dev nD) : sProp 𝕄 :=
  iprop(has c (orow false c 0) (widen (tv m (src 0 c) false))
    ∗ has c (orow false c 1) (sv m c false)
    ∗ has c (orow false c 2) (widen (tv m (src 1 c) false))
    ∗ has c (orow false c 3) (widen (tv m (src 2 c) false))
    ∗ has c (orow true c 0) (widen (tv m (src 1 c) true))
    ∗ has c (orow true c 1) (widen (tv m (src 2 c) true))
    ∗ has c (orow true c 2) (widen (tv m (src 0 c) true))
    ∗ has c (orow true c 3) (sv m c true))

/-- The cells that are over when the body ends, but for the fetches'. -/
def over (c : Dev nD) : sProp 𝕄 :=
  iprop(shut c .bar
    ∗ shut c .ack
    ∗ shut c (.rsc 0 false)
    ∗ shut c (.rsc 1 false)
    ∗ shut c (.rsc 2 false)
    ∗ shut c (.rsc 0 true)
    ∗ shut c (.rsc 1 true)
    ∗ shut c (.rsc 2 true)
    ∗ shut c (.rga 0 false)
    ∗ shut c (.rga 1 false)
    ∗ shut c (.rga 2 false)
    ∗ shut c (.rga 0 true)
    ∗ shut c (.rga 1 true)
    ∗ shut c (.rga 2 true)
    ∗ shut c (.ssc 0 false)
    ∗ shut c (.ssc 1 false)
    ∗ shut c (.ssc 2 false)
    ∗ shut c (.ssc 0 true)
    ∗ shut c (.ssc 1 true)
    ∗ shut c (.ssc 2 true)
    ∗ shut c (.sga 0 false)
    ∗ shut c (.sga 1 false)
    ∗ shut c (.sga 2 false)
    ∗ shut c (.sga 0 true)
    ∗ shut c (.sga 1 true)
    ∗ shut c (.sga 2 true))

/-- Row numbers only. -/
theorem part2 {v v' : BitVec 32} {kk : (Σ' (v27 : BitVec 32) (v32 : BitVec 32) (v36 : BitVec 32) (v40 : BitVec 32) (v45 : BitVec 32) (v49 : BitVec 32), BitVec 32) → Prog (TpuEff nD τ sig (Elt F) Λ₀ .tc) α} :
    iprop(∀ w1 : BitVec 32, ∀ w2 : BitVec 32, ∀ w3 : BitVec 32, ∀ w4 : BitVec 32, ∀ w5 : BitVec 32, ∀ w6 : BitVec 32, ∀ w7 : BitVec 32, Run c (kk ⟨w1, w2, w3, w4, w5, w6, w7⟩) Ψ)
      ⊢ Run c ((k0_part2 (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8 v v') >>= kk) Ψ := by
  rw [k0_part2_eq_skeleton]
  unfold k0_part2_skel
  simp only [Prog.bind_ret, Prog.pure_eq_ret]
  iintro Hk
  iapply Hk

set_option maxHeartbeats 4000000 in
/-- The body, part by part. -/
theorem body_run (Φ : PUnit → sProp (MT nD τ sig Unit (Elt F) ℕ UU ℕ)) :
    iprop(recs m K ∗ owing c (debtsAt c 0) ∗ kit c ∗ fidle m c 0 0 ∗ fidle m c 1 0 ∗ rightB m c ∗ board c ∗ blank c)
      ⊢ iprop((owing c (debtsAt c 18) ∗ over c ∗ fidle m c 0 4 ∗ fidle m c 1 4 ∗ rightB m c ∗ board c ∗ filled m c -∗ Run c (.ret ⟨⟩) Φ)
          -∗ Run c (cc0_body (Memref.whole main_arg0) (Memref.isWhole_whole _) (Memref.whole cc0_stg0_0) (Memref.isWhole_whole _) (Memref.whole cc0_stg1_0) (Memref.isWhole_whole _)
              (Memref.whole cc0_scratch0) (Memref.isWhole_whole _) (Memref.whole cc0_scratch1) (Memref.isWhole_whole _) (Memref.whole cc0_scratch2) (Memref.isWhole_whole _)
              cc0_scratch3 cc0_scratch4 cc0_scratch5 cc0_scratch6 cc0_scratch7 cc0_scratch8) Φ) := by
  rw [cc0_body_eq_skeleton]
  unfold cc0_body_skel kit board blank filled over
  iintro ⟨#R, O, ⟨W0, W1, W2, X0, X1, X2, Ub, Ua, U0f, U1f, U2f, U0t, U1t, U2t, V0f, V1f, V2f, V0t, V1t, V2t, Q0f, Q1f, Q2f, Q0t, Q1t, Q2t, Y0f, Y1f, Y2f, Y0t, Y1t, Y2t⟩, F0, F1, B, ⟨T0, T1, Pf0, Pf1, Pf2, Pf3, Pt0, Pt1, Pt2, Pt3, S0f, S1f, S2f, S0t, S1t, S2t⟩, ⟨Of0, Of1, Of2, Of3, Ot0, Ot1, Ot2, Ot3⟩⟩ Hk
  iapply (part1 m K c) $$ [O W0 S0f S0t W1 S1f S1t W2 S2f S2t Ub]
  · isplitr; · iexact R
    isplitl [O]; · iexact O
    isplitl [W0]; · iexact W0
    isplitl [S0f]; · iexact S0f
    isplitl [S0t]; · iexact S0t
    isplitl [W1]; · iexact W1
    isplitl [S1f]; · iexact S1f
    isplitl [S1t]; · iexact S1t
    isplitl [W2]; · iexact W2
    isplitl [S2f]; · iexact S2f
    isplitl [S2t]; · iexact S2t
    iexact Ub
  iintro %a1 %a2 %a3 %a4 %a5 %a6 ⟨O, Zb, G0f, G0t, G1f, G1t, G2f, G2t⟩
  iapply (part2 c)
  iintro %b1 %b2 %b3 %b4 %b5 %b6 %b7
  iapply (part3 m K c) $$ [F0 T0 F1 T1 O B Pf0]
  · isplitr; · iexact R
    isplitl [F0]; · iexact F0
    isplitl [T0]; · iexact T0
    isplitl [F1]; · iexact F1
    isplitl [T1]; · iexact T1
    isplitl [O]; · iexact O
    isplitl [B]; · iexact B
    iexact Pf0
  iintro ⟨F1, O, B, Pf0, F0⟩
  iapply (part4 m K c) $$ [Pf0 G1f O Q1f F1 B Pt0]
  · isplitr; · iexact R
    isplitl [Pf0]; · iexact Pf0
    isplitl [G1f]; · iexact G1f
    isplitl [O]; · iexact O
    isplitl [Q1f]; · iexact Q1f
    isplitl [F1]; · iexact F1
    isplitl [B]; · iexact B
    iexact Pt0
  iintro ⟨D1f, O, B, Pt0, F1⟩
  iapply (part5 m K c) $$ [Pt0 G0t O Q0t F0 B Pt1]
  · isplitr; · iexact R
    isplitl [Pt0]; · iexact Pt0
    isplitl [G0t]; · iexact G0t
    isplitl [O]; · iexact O
    isplitl [Q0t]; · iexact Q0t
    isplitl [F0]; · iexact F0
    isplitl [B]; · iexact B
    iexact Pt1
  iintro ⟨D0t, O, B, Pt1, F0⟩
  iapply (part6 m K c) $$ [Pt1 G2t O Q2t F1 B Pf3]
  · isplitr; · iexact R
    isplitl [Pt1]; · iexact Pt1
    isplitl [G2t]; · iexact G2t
    isplitl [O]; · iexact O
    isplitl [Q2t]; · iexact Q2t
    isplitl [F1]; · iexact F1
    isplitl [B]; · iexact B
    iexact Pf3
  iintro ⟨D2t, O, B, Pf3, F1⟩
  iapply (part7 m K c) $$ [Pf3 G2f O Q2f F0 B Pf2]
  · isplitr; · iexact R
    isplitl [Pf3]; · iexact Pf3
    isplitl [G2f]; · iexact G2f
    isplitl [O]; · iexact O
    isplitl [Q2f]; · iexact Q2f
    isplitl [F0]; · iexact F0
    isplitl [B]; · iexact B
    iexact Pf2
  iintro ⟨D2f, O, B, Pf2, F0⟩
  iapply (part8 m K c) $$ [Pf2 G0f O Q0f F1 B Pt2]
  · isplitr; · iexact R
    isplitl [Pf2]; · iexact Pf2
    isplitl [G0f]; · iexact G0f
    isplitl [O]; · iexact O
    isplitl [Q0f]; · iexact Q0f
    isplitl [F1]; · iexact F1
    isplitl [B]; · iexact B
    iexact Pt2
  iintro ⟨D0f, O, B, Pt2, F1⟩
  iapply (part9 m K c) $$ [Pt2 G1t O Q1t F0 B Pf1 F1]
  · isplitr; · iexact R
    isplitl [Pt2]; · iexact Pt2
    isplitl [G1t]; · iexact G1t
    isplitl [O]; · iexact O
    isplitl [Q1t]; · iexact Q1t
    isplitl [F0]; · iexact F0
    isplitl [B]; · iexact B
    isplitl [Pf1]; · iexact Pf1
    iexact F1
  iintro ⟨D1t, F0, T0, B, Pf1, O, F1, T1⟩
  iapply (part10 m K c) $$ [T1 B Pt3 O U0f U1f]
  · isplitr; · iexact R
    isplitl [T1]; · iexact T1
    isplitl [B]; · iexact B
    isplitl [Pt3]; · iexact Pt3
    isplitl [O]; · iexact O
    isplitl [U0f]; · iexact U0f
    iexact U1f
  iintro ⟨T1, B, Pt3, Zr0f, S0f, O, Zr1f, S1f⟩
  iapply (part11 m K c) $$ [O U2f Pf1 S0f S1f]
  · isplitr; · iexact R
    isplitl [O]; · iexact O
    isplitl [U2f]; · iexact U2f
    isplitl [Pf1]; · iexact Pf1
    isplitl [S0f]; · iexact S0f
    iexact S1f
  iintro %d1 ⟨O, Zr2f, S2f, Pf1, S0f, S1f⟩
  iapply (part12 m K c) $$ [Of1 O U0t U1t]
  · isplitr; · iexact R
    isplitl [Of1]; · iexact Of1
    isplitl [O]; · iexact O
    isplitl [U0t]; · iexact U0t
    iexact U1t
  iintro ⟨Of1, Zr0t, S0t, O, Zr1t, S1t⟩
  iapply (part13 m K c) $$ [O U2t Pt3 S0t S1t Ot3]
  · isplitr; · iexact R
    isplitl [O]; · iexact O
    isplitl [U2t]; · iexact U2t
    isplitl [Pt3]; · iexact Pt3
    isplitl [S0t]; · iexact S0t
    isplitl [S1t]; · iexact S1t
    iexact Ot3
  iintro %d2 ⟨O, Zr2t, S2t, Pt3, S0t, S1t, Ot3⟩
  iapply (part14 m K c) $$ [Of1 Pf1 Ot3 Pt3]
  · isplitr; · iexact R
    isplitl [Of1]; · iexact Of1
    isplitl [Pf1]; · iexists _; iexact Pf1
    isplitl [Ot3]; · iexact Ot3
    iexists _; iexact Pt3
  iintro %d3 %d4 ⟨Of1, Pf1, Ot3, Pt3⟩
  ihave Pf1 := (thirds c (prow false c 1) (tv m c false)).1 $$ Pf1
  icases Pf1 with ⟨A0f, A1f, A2f⟩
  ihave Pt3 := (thirds c (prow true c 3) (tv m c true)).1 $$ Pt3
  icases Pt3 with ⟨A0t, A1t, A2t⟩
  iapply (part15 m K c) $$ [O X0 S0f S0t X1 S1f S1t X2 S2f S2t Ua A1f Y1f]
  · isplitr; · iexact R
    isplitl [O]; · iexact O
    isplitl [X0]; · iexact X0
    isplitl [S0f]; · iexists _; iexact S0f
    isplitl [S0t]; · iexists _; iexact S0t
    isplitl [X1]; · iexact X1
    isplitl [S1f]; · iexists _; iexact S1f
    isplitl [S1t]; · iexists _; iexact S1t
    isplitl [X2]; · iexact X2
    isplitl [S2f]; · iexists _; iexact S2f
    isplitl [S2t]; · iexists _; iexact S2t
    isplitl [Ua]; · iexact Ua
    isplitl [A1f]; · iexact A1f
    iexact Y1f
  iintro %d5 ⟨Za, G0f, G0t, G1t, G2f, G2t, E1f, O⟩
  iapply (part16 m K c) $$ [A0f G0f O Y0f A2f G2f Y2f]
  · isplitr; · iexact R
    isplitl [A0f]; · iexact A0f
    isplitl [G0f]; · iexact G0f
    isplitl [O]; · iexact O
    isplitl [Y0f]; · iexact Y0f
    isplitl [A2f]; · iexact A2f
    isplitl [G2f]; · iexact G2f
    iexact Y2f
  iintro ⟨E0f, E2f, O⟩
  iapply (part17 m K c) $$ [A1t G1t O Y1t A0t G0t Y0t]
  · isplitr; · iexact R
    isplitl [A1t]; · iexact A1t
    isplitl [G1t]; · iexact G1t
    isplitl [O]; · iexact O
    isplitl [Y1t]; · iexact Y1t
    isplitl [A0t]; · iexact A0t
    isplitl [G0t]; · iexact G0t
    iexact Y0t
  iintro ⟨E1t, E0t, O⟩
  iapply (part18 m K c) $$ [A2t G2t O Y2t V0f Of0]
  · isplitr; · iexact R
    isplitl [A2t]; · iexact A2t
    isplitl [G2t]; · iexact G2t
    isplitl [O]; · iexact O
    isplitl [Y2t]; · iexact Y2t
    isplitl [V0f]; · iexact V0f
    iexact Of0
  iintro ⟨E2t, O, Zg0f, S0f, Of0⟩
  iapply (part19 m K c) $$ [O V1f Of2 V2f]
  · isplitr; · iexact R
    isplitl [O]; · iexact O
    isplitl [V1f]; · iexact V1f
    isplitl [Of2]; · iexact Of2
    iexact V2f
  iintro %d6 %d7 ⟨Zg1f, S1f, Of2, O, Zg2f, S2f⟩
  iapply (part20 m K c) $$ [Of3 O V0t Ot2]
  · isplitr; · iexact R
    isplitl [Of3]; · iexact Of3
    isplitl [O]; · iexact O
    isplitl [V0t]; · iexact V0t
    iexact Ot2
  iintro ⟨Of3, O, Zg0t, S0t, Ot2⟩
  iapply (part21 m K c) $$ [O V1t Ot0 V2t]
  · isplitr; · iexact R
    isplitl [O]; · iexact O
    isplitl [V1t]; · iexact V1t
    isplitl [Ot0]; · iexact Ot0
    iexact V2t
  iintro %d8 %d9 ⟨Zg1t, S1t, Ot0, O, Zg2t, S2t⟩
  iapply (part22 m K c) $$ [Ot1 O D1f D0t D2t]
  · isplitr; · iexact R
    isplitl [Ot1]; · iexact Ot1
    isplitl [O]; · iexact O
    isplitl [D1f]; · iexact D1f
    isplitl [D0t]; · iexact D0t
    iexact D2t
  iintro ⟨Ot1, Zs1f, Pf0, Zs0t, Pt0, O, Zs2t, Pt1⟩
  iapply (part23 m K c) $$ [O D2f D0f D1t E1f]
  · isplitr; · iexact R
    isplitl [O]; · iexact O
    isplitl [D2f]; · iexact D2f
    isplitl [D0f]; · iexact D0f
    isplitl [D1t]; · iexact D1t
    iexact E1f
  iintro ⟨Zs2f, Pf3, Zs0f, Pf2, Zs1t, Pt2, O, Zt1f, A1f⟩
  iapply (part24 m K c) $$ [O E0f E2f E1t E0t]
  · isplitr; · iexact R
    isplitl [O]; · iexact O
    isplitl [E0f]; · iexact E0f
    isplitl [E2f]; · iexact E2f
    isplitl [E1t]; · iexact E1t
    iexact E0t
  iintro ⟨Zt0f, A0f, Zt2f, A2f, Zt1t, A1t, O, Zt0t, A0t⟩
  simp only [Prog.lift, Prog.bind_op, Prog.bind_ret, Prog.pure_eq_ret]
  iapply (step_take m K c (k := .sga 2 true) (R := owns (c : Thread nD τ) (prow true c 3) (gsh 2) (tv m c true)) rfl ⟨rfl, rfl, rfl⟩ rfl (y := prow true c 3) rfl (above4 c _)) $$ [O E2t]
  · isplitr; · iexact R
    isplitl [O]; · iexact O
    iexact E2t
  iintro ⟨O, Zt2t, A2t⟩
  ihave Pf1 := (thirds c (prow false c 1) (tv m c false)).2 $$ [A0f A1f A2f]
  · isplitl [A0f]; · iexact A0f
    isplitl [A1f]; · iexact A1f
    iexact A2f
  ihave Pt3 := (thirds c (prow true c 3) (tv m c true)).2 $$ [A0t A1t A2t]
  · isplitl [A0t]; · iexact A0t
    isplitl [A1t]; · iexact A1t
    iexact A2t
  iapply Hk
  isplitl [O]; · iexact O
  isplitl [Zb Za Zr0f Zr1f Zr2f Zr0t Zr1t Zr2t Zg0f Zg1f Zg2f Zg0t Zg1t Zg2t Zs0f Zs1f Zs2f Zs0t Zs1t Zs2t Zt0f Zt1f Zt2f Zt0t Zt1t Zt2t]
  · isplitl [Zb]; · iexact Zb
    isplitl [Za]; · iexact Za
    isplitl [Zr0f]; · iexact Zr0f
    isplitl [Zr1f]; · iexact Zr1f
    isplitl [Zr2f]; · iexact Zr2f
    isplitl [Zr0t]; · iexact Zr0t
    isplitl [Zr1t]; · iexact Zr1t
    isplitl [Zr2t]; · iexact Zr2t
    isplitl [Zg0f]; · iexact Zg0f
    isplitl [Zg1f]; · iexact Zg1f
    isplitl [Zg2f]; · iexact Zg2f
    isplitl [Zg0t]; · iexact Zg0t
    isplitl [Zg1t]; · iexact Zg1t
    isplitl [Zg2t]; · iexact Zg2t
    isplitl [Zs0f]; · iexact Zs0f
    isplitl [Zs1f]; · iexact Zs1f
    isplitl [Zs2f]; · iexact Zs2f
    isplitl [Zs0t]; · iexact Zs0t
    isplitl [Zs1t]; · iexact Zs1t
    isplitl [Zs2t]; · iexact Zs2t
    isplitl [Zt0f]; · iexact Zt0f
    isplitl [Zt1f]; · iexact Zt1f
    isplitl [Zt2f]; · iexact Zt2f
    isplitl [Zt0t]; · iexact Zt0t
    isplitl [Zt1t]; · iexact Zt1t
    iexact Zt2t
  isplitl [F0]
  · iexact F0
  isplitl [F1]
  · iexact F1
  isplitl [B]
  · iexact B
  isplitl [T0 T1 Pf0 Pf1 Pf2 Pf3 Pt0 Pt1 Pt2 Pt3 S0f S1f S2f S0t S1t S2t]
  · isplitl [T0]; · iexact T0
    isplitl [T1]; · iexact T1
    isplitl [Pf0]; · iexists _; iexact Pf0
    isplitl [Pf1]; · iexists _; iexact Pf1
    isplitl [Pf2]; · iexists _; iexact Pf2
    isplitl [Pf3]; · iexists _; iexact Pf3
    isplitl [Pt0]; · iexists _; iexact Pt0
    isplitl [Pt1]; · iexists _; iexact Pt1
    isplitl [Pt2]; · iexists _; iexact Pt2
    isplitl [Pt3]; · iexists _; iexact Pt3
    isplitl [S0f]; · iexists _; iexact S0f
    isplitl [S1f]; · iexists _; iexact S1f
    isplitl [S2f]; · iexists _; iexact S2f
    isplitl [S0t]; · iexists _; iexact S0t
    isplitl [S1t]; · iexists _; iexact S1t
    iexists _; iexact S2t
  isplitl [Of0]; · iexact Of0
  isplitl [Of1]; · iexact Of1
  isplitl [Of2]; · iexact Of2
  isplitl [Of3]; · iexact Of3
  isplitl [Ot0]; · iexact Ot0
  isplitl [Ot1]; · iexact Ot1
  isplitl [Ot2]; · iexact Ot2
  iexact Ot3

end Cert.Mesh

end
-- ==== Proof.Pieces.lean ====
/- The whole buffers and the pieces the body works on: cut before, joined after. -/
module

public import proofs.«01_k».proof.Proof.Body

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (c : Dev nD)

/-! ## The rectangles cover, and are apart -/

/-- Every chunk is some number of places ahead of `c`. -/
theorem chunk_onto (c : Dev nD) (j : Fin 4) : ∃ k, chunk c k = j.val := by revert c j; decide
/-- Different places ahead are different chunks. -/
theorem chunk_inj (c : Dev nD) (k k' : Fin 4) (h : chunk c k = chunk c k') : k = k' := by revert c k k'; decide

/-- The halves of the chunks, as a family of rectangles. -/
abbrev rects (c : Dev nD) (x : Bool × Fin 4) : Rect S2048x2048 := rectP x.1 c x.2

/-- The rows of a half of a chunk. -/
theorem mem_rectP (h : Bool) (c : Dev nD) (k : Fin 4) (i : S2048x2048.Idx) :
    i ∈ (rectP h c k).set ↔ rowOf (chunk c k) h ≤ (i 0 : ℕ) ∧ (i 0 : ℕ) < rowOf (chunk c k) h + 256 := by
  have e := offP_eq h c k
  rw [Rect.mem_set_unit, Fin.forall_fin_two, e]
  have h1 : (i 1 : ℕ) < 2048 := (i 1).isLt
  exact ⟨fun h => h.1, fun h => ⟨h, Nat.zero_le _, lt_of_lt_of_eq h1 (Nat.zero_add _).symm⟩⟩

/-- Together they are the whole array. -/
theorem rects_cover (c : Dev nD) : (Finset.univ : Finset (Bool × Fin 4)).biUnion (fun x => (rects c x).set) = Finset.univ := by
  ext i
  simp only [Finset.mem_biUnion, Finset.mem_univ, true_and, iff_true]
  have h0 : (i 0 : ℕ) < 2048 := (i 0).isLt
  obtain ⟨k, hk⟩ := chunk_onto c ⟨(i 0 : ℕ) / 512, by omega⟩
  refine ⟨(decide (256 ≤ (i 0 : ℕ) % 512), k), (mem_rectP _ c k i).2 ?_⟩
  rw [hk]
  unfold rowOf
  by_cases h : 256 ≤ (i 0 : ℕ) % 512 <;> simp only [h, decide_true, decide_false, if_true, if_false, Bool.false_eq_true] <;> omega

/-- No two meet. -/
theorem rects_apart (c : Dev nD) (x y : Bool × Fin 4) (hxy : x ≠ y) : Disjoint (rects c x).set (rects c y).set := by
  rw [Finset.disjoint_left]
  intro i hi hj
  have hi := (mem_rectP _ c _ i).1 hi
  have hj := (mem_rectP _ c _ i).1 hj
  obtain ⟨hx, kx⟩ := x
  obtain ⟨hy, ky⟩ := y
  by_cases hk : kx = ky
  · subst hk
    cases hx <;> cases hy <;> first | exact hxy rfl | (simp only [rowOf, if_true, if_false, Bool.false_eq_true] at hi hj; omega)
  · have hne : chunk c kx ≠ chunk c ky := fun e => hk (chunk_inj c kx ky e)
    unfold rowOf at hi hj
    cases hx <;> cases hy <;> simp only [if_true, if_false, Bool.false_eq_true] at hi hj <;> omega

/-- The receive slots as a family of rectangles cover their buffer. -/
theorem slots_cover : (Finset.univ : Finset (Bool × Fin 3)).biUnion (fun x => (slotRect x.2 x.1).set) = Finset.univ := by
  ext i
  simp only [Finset.mem_biUnion, Finset.mem_univ, true_and, iff_true]
  have h0 : (i 0 : ℕ) < 3 := (i 0).isLt
  have h1 : (i 1 : ℕ) < 2 := (i 1).isLt
  refine ⟨(decide ((i 1 : ℕ) = 1), ⟨i 0, h0⟩), Rect.mem_set_unit.2 fun a => ?_⟩
  have hb : (decide ((i 1 : ℕ) = 1)).toNat = (i 1 : ℕ) := by
    by_cases h : (i 1 : ℕ) = 1
    · simp only [h, decide_true, Bool.toNat_true]
    · simp only [h, decide_false, Bool.toNat_false]; omega
  match a with
  | ⟨0, _⟩ => exact ⟨le_refl _, Nat.lt_succ_self _⟩
  | ⟨1, _⟩ => exact ⟨le_of_eq hb, lt_of_lt_of_eq (Nat.lt_succ_self _) (congrArg (· + 1) hb.symm)⟩
  | ⟨2, _⟩ => exact ⟨Nat.zero_le _, lt_of_lt_of_eq (i 2).isLt (Nat.zero_add _).symm⟩
  | ⟨3, _⟩ => exact ⟨Nat.zero_le _, lt_of_lt_of_eq (i 3).isLt (Nat.zero_add _).symm⟩

/-- No two slots meet. -/
theorem slots_apart (x y : Bool × Fin 3) (hxy : x ≠ y) : Disjoint (slotRect x.2 x.1).set (slotRect y.2 y.1).set := by
  obtain ⟨hx, p⟩ := x
  obtain ⟨hy, q⟩ := y
  by_cases hp : p = q
  · subst hp
    refine Rect.unit_disjoint 1 ?_
    revert hxy; revert hx hy p; decide
  · refine Rect.unit_disjoint 0 ?_
    have hne : p.val ≠ q.val := fun h => hp (Fin.ext h)
    show p.val + 1 ≤ q.val ∨ q.val + 1 ≤ p.val
    omega

/-- The fetch slots cover their buffer. -/
theorem tiles_cover : (Finset.univ : Finset (Fin 2)).biUnion (fun s => (tileRect s).set) = Finset.univ := by
  ext i
  simp only [Finset.mem_biUnion, Finset.mem_univ, true_and, iff_true]
  refine ⟨⟨i 0, (i 0).isLt⟩, Rect.mem_set_unit.2 fun a => ?_⟩
  match a with
  | ⟨0, _⟩ => exact ⟨le_refl _, Nat.lt_succ_self _⟩
  | ⟨1, _⟩ => exact ⟨Nat.zero_le _, lt_of_lt_of_eq (i 1).isLt (Nat.zero_add _).symm⟩
  | ⟨2, _⟩ => exact ⟨Nat.zero_le _, lt_of_lt_of_eq (i 2).isLt (Nat.zero_add _).symm⟩

/-- The two do not meet. -/
theorem tiles_apart (s t : Fin 2) (h : s ≠ t) : Disjoint (tileRect s).set (tileRect t).set := by
  refine Rect.unit_disjoint 0 ?_
  revert h; revert s t; decide

/-! ## A buffer and a family of its slices -/

section Family

variable {T : Type} [Fintype T] [DecidableEq T] {σ : Space} {S s : Shape} {e : EltTy} (x : Memref sig .tc σ S e) (r : T → Rect S)
  (hr : ∀ t a, (r t).stride a = 1) (hd : ∀ t t', t ≠ t' → Disjoint (r t).set (r t').set)
  (hcov : (Finset.univ : Finset T).biUnion (fun t => (r t).set) = Finset.univ)
include hd hcov

/-- A buffer held at some contents is each slice held at some contents. -/
theorem cut_any : iprop(∃ X, has c x X) ⊢ (bigSep Finset.univ fun t => iprop(∃ X, has c (x.slice (r t) (hr t)) X) : sProp 𝕄) := by
  iintro ⟨%X, H⟩
  iapply (show has c x X ⊢ (bigSep Finset.univ fun t => iprop(∃ X, has c (x.slice (r t) (hr t)) X) : sProp 𝕄) from
    (owns_rects (c : Thread nD τ) x fullShare r hr hd hcov X).trans (bigSep_mono fun t _ =>
      show has c (x.slice (r t) (hr t)) (fun j => X ((r t).emb j)) ⊢ iprop(∃ X, has c (x.slice (r t) (hr t)) X) from by
        iintro H
        iexists (fun j => X ((r t).emb j))
        iexact H))
  iexact H

/-- Slices held at given contents are the buffer held at those glued. -/
theorem glue_at (Z : (t : T) → (r t).shape.Idx → Elt F e) :
    (bigSep Finset.univ fun t => has c (x.slice (r t) (hr t)) (Z t) : sProp 𝕄) ⊢ has c x (Rect.glue r hcov Z) := by
  refine BIBase.Entails.trans (BIBase.Entails.of_eq ?_) (owns_of_rects (c : Thread nD τ) x fullShare r hr hd hcov (Rect.glue r hcov Z))
  exact bigSep_congr fun t _ => by
    rw [show (fun j => Rect.glue r hcov Z ((r t).emb j)) = Z t from funext fun j => Rect.glue_emb r hcov hd Z t j]

/-- Slices held at some contents are the buffer held at some contents. -/
theorem glue_any : (bigSep Finset.univ fun t => iprop(∃ X, has c (x.slice (r t) (hr t)) X) : sProp 𝕄) ⊢ iprop(∃ X, has c x X) := by
  refine BIBase.Entails.trans (BI.bigSep_exists_pi Finset.univ fun t X => has c (x.slice (r t) (hr t)) X) ?_
  iintro ⟨%Z, H⟩
  iexists (Rect.glue r hcov Z)
  iapply (glue_at c x r hr hd hcov Z)
  iexact H

end Family

/-- A reshaped view is held where the view is, -/
theorem to_squeeze {σ : Space} {S S' : Shape} {e : EltTy} (x : Memref sig .tc σ S e) (h : S.Squeezes S') :
    (iprop(∃ X, has c x X) : sProp 𝕄) ⊢ iprop(∃ X, has c (x.squeeze S' h) X) := by
  have hs : (x.squeeze S' h).view.set = x.view.set := View.set_reshape _ _
  iintro ⟨%X, H⟩
  unfold has owns
  icases H with ⟨%f, -, H⟩
  iexists ((x.squeeze S' h).view.read (Elt F) f)
  iexists f
  isplitr; · ipureintro; rfl
  rw [hs]; iexact H
/-- and the view where it is. -/
theorem of_squeeze {σ : Space} {S S' : Shape} {e : EltTy} (x : Memref sig .tc σ S e) (h : S.Squeezes S') :
    (iprop(∃ X, has c (x.squeeze S' h) X) : sProp 𝕄) ⊢ iprop(∃ X, has c x X) := by
  have hs : (x.squeeze S' h).view.set = x.view.set := View.set_reshape _ _
  iintro ⟨%X, H⟩
  unfold has owns
  rw [hs]
  icases H with ⟨%f, -, H⟩
  iexists (x.view.read (Elt F) f)
  iexists f
  isplitr; · ipureintro; rfl
  iexact H

/-- A whole buffer at some contents. -/
theorem any_whole (b : Ref sig .tc) :
    (iprop(∃ X, has c (Memref.whole b) X) : sProp 𝕄) = iprop(∃ f : Buf (Elt F) ((c : Thread nD τ).loc b), ((c : Thread nD τ).loc b) ↦{fullShare} f) := by
  refine congrArg _ (funext fun f => ?_)
  exact owns_whole (c : Thread nD τ) b fullShare f

/-! ## The kernel's buffers -/

/-- The halves in the body's order. -/
theorem bigSep_rects (Φ : Bool × Fin 4 → sProp 𝕄) : bigSep Finset.univ Φ
    = iprop(Φ (false, 0) ∗ Φ (false, 1) ∗ Φ (false, 2) ∗ Φ (false, 3) ∗ Φ (true, 0) ∗ Φ (true, 1) ∗ Φ (true, 2) ∗ Φ (true, 3)) :=
  bigSep_univ_eq_bigSepL [(false, 0), (false, 1), (false, 2), (false, 3), (true, 0), (true, 1), (true, 2), (true, 3)] (by decide) (by decide) Φ
/-- The receive slots in the body's order. -/
theorem bigSep_slots (Φ : Bool × Fin 3 → sProp 𝕄) : bigSep Finset.univ Φ
    = iprop(Φ (false, 0) ∗ Φ (false, 1) ∗ Φ (false, 2) ∗ Φ (true, 0) ∗ Φ (true, 1) ∗ Φ (true, 2)) :=
  bigSep_univ_eq_bigSepL [(false, 0), (false, 1), (false, 2), (true, 0), (true, 1), (true, 2)] (by decide) (by decide) Φ
/-- The fetch slots. -/
theorem bigSep_tiles (Φ : Fin 2 → sProp 𝕄) : bigSep Finset.univ Φ = iprop(Φ 0 ∗ Φ 1) :=
  bigSep_univ_eq_bigSepL [0, 1] (by decide) (by decide) Φ

/-- Some contents of each of the three scratch buffers. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The fetch buffer is its two slots, -/
theorem cut_tiles : iprop(∃ X, has c (Memref.whole cc0_scratch0 : Memref sig .tc .vmem S2x256x1024 .f32) X) ⊢ (iprop((∃ X, has c (tile 0) X) ∗ ∃ X, has c (tile 1) X) : sProp 𝕄) := by
  refine BIBase.Entails.trans (cut_any c _ tileRect (fun _ _ => rfl) tiles_apart tiles_cover) ?_
  rw [bigSep_tiles]
  exact (BI.sep_mono (to_squeeze c _ _) (to_squeeze c _ _))
/-- and they are it. -/
theorem glue_tiles : (iprop((∃ X, has c (tile 0) X) ∗ ∃ X, has c (tile 1) X) : sProp 𝕄) ⊢ iprop(∃ X, has c (Memref.whole cc0_scratch0 : Memref sig .tc .vmem S2x256x1024 .f32) X) := by
  refine BIBase.Entails.trans ?_ (glue_any c _ tileRect (fun _ _ => rfl) tiles_apart tiles_cover)
  rw [bigSep_tiles]
  exact (BI.sep_mono (of_squeeze c _ _) (of_squeeze c _ _))
/-- The receive buffer is its six slots, -/
theorem cut_slots : iprop(∃ X, has c (Memref.whole cc0_scratch2 : Memref sig .tc .vmem S3x2x256x2048 .bf16) X) ⊢ (iprop((∃ X, has c (slot 0 false) X) ∗ (∃ X, has c (slot 1 false) X) ∗ (∃ X, has c (slot 2 false) X) ∗ (∃ X, has c (slot 0 true) X) ∗ (∃ X, has c (slot 1 true) X) ∗ (∃ X, has c (slot 2 true) X)) : sProp 𝕄) := by
  refine BIBase.Entails.trans (cut_any c _ (fun x : Bool × Fin 3 => slotRect x.2 x.1) (fun _ _ => rfl) slots_apart slots_cover) ?_
  rw [bigSep_slots]
  exact (BI.sep_mono (to_squeeze c _ _) (BI.sep_mono (to_squeeze c _ _) (BI.sep_mono (to_squeeze c _ _) (BI.sep_mono (to_squeeze c _ _) (BI.sep_mono (to_squeeze c _ _) (to_squeeze c _ _))))))
/-- and they are it. -/
theorem glue_slots : (iprop((∃ X, has c (slot 0 false) X) ∗ (∃ X, has c (slot 1 false) X) ∗ (∃ X, has c (slot 2 false) X) ∗ (∃ X, has c (slot 0 true) X) ∗ (∃ X, has c (slot 1 true) X) ∗ (∃ X, has c (slot 2 true) X)) : sProp 𝕄) ⊢ iprop(∃ X, has c (Memref.whole cc0_scratch2 : Memref sig .tc .vmem S3x2x256x2048 .bf16) X) := by
  refine BIBase.Entails.trans ?_ (glue_any c _ (fun x : Bool × Fin 3 => slotRect x.2 x.1) (fun _ _ => rfl) slots_apart slots_cover)
  rw [bigSep_slots]
  exact (BI.sep_mono (of_squeeze c _ _) (BI.sep_mono (of_squeeze c _ _) (BI.sep_mono (of_squeeze c _ _) (BI.sep_mono (of_squeeze c _ _) (BI.sep_mono (of_squeeze c _ _) (of_squeeze c _ _))))))
/-- The buffer of partial products is its eight pieces, -/
theorem cut_rows : iprop(∃ X, has c (Memref.whole cc0_scratch1 : Memref sig .tc .vmem S2048x2048 .bf16) X) ⊢ (iprop((∃ X, has c (prow false c 0) X) ∗ (∃ X, has c (prow false c 1) X) ∗ (∃ X, has c (prow false c 2) X) ∗ (∃ X, has c (prow false c 3) X) ∗ (∃ X, has c (prow true c 0) X) ∗ (∃ X, has c (prow true c 1) X) ∗ (∃ X, has c (prow true c 2) X) ∗ (∃ X, has c (prow true c 3) X)) : sProp 𝕄) := by
  refine BIBase.Entails.trans (cut_any c _ (rects c) (fun _ _ => rfl) (rects_apart c) (rects_cover c)) ?_
  rw [bigSep_rects]
  exact .rfl
/-- and they are it. -/
theorem glue_rows : (iprop((∃ X, has c (prow false c 0) X) ∗ (∃ X, has c (prow false c 1) X) ∗ (∃ X, has c (prow false c 2) X) ∗ (∃ X, has c (prow false c 3) X) ∗ (∃ X, has c (prow true c 0) X) ∗ (∃ X, has c (prow true c 1) X) ∗ (∃ X, has c (prow true c 2) X) ∗ (∃ X, has c (prow true c 3) X)) : sProp 𝕄) ⊢ iprop(∃ X, has c (Memref.whole cc0_scratch1 : Memref sig .tc .vmem S2048x2048 .bf16) X) := by
  refine BIBase.Entails.trans ?_ (glue_any c _ (rects c) (fun _ _ => rfl) (rects_apart c) (rects_cover c))
  rw [bigSep_rects]
  exact .rfl

/-- The scratch buffers are the body's pieces, -/
theorem board_of_scratch : scratch c ⊢ (board c : sProp 𝕄) := by
  unfold scratch board
  rw [← any_whole c cc0_scratch0, ← any_whole c cc0_scratch1, ← any_whole c cc0_scratch2]
  iintro ⟨HA, HB, HC⟩
  ihave HA := (cut_tiles c) $$ HA
  ihave HB := (cut_rows c) $$ HB
  ihave HC := (cut_slots c) $$ HC
  icases HA with ⟨H0, H1⟩
  icases HB with ⟨H2, H3, H4, H5, H6, H7, H8, H9⟩
  icases HC with ⟨H10, H11, H12, H13, H14, H15⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15
/-- and those are them again. -/
theorem scratch_of_board : board c ⊢ (scratch c : sProp 𝕄) := by
  unfold scratch board
  rw [← any_whole c cc0_scratch0, ← any_whole c cc0_scratch1, ← any_whole c cc0_scratch2]
  iintro ⟨H0, H1, H2, H3, H4, H5, H6, H7, H8, H9, H10, H11, H12, H13, H14, H15⟩
  isplitl [H0 H1]
  · iapply (glue_tiles c)
    isplitl [H0]; · iexact H0
    iexact H1
  isplitl [H2 H3 H4 H5 H6 H7 H8 H9]
  · iapply (glue_rows c)
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iapply (glue_slots c)
  isplitl [H10]; · iexact H10
  isplitl [H11]; · iexact H11
  isplitl [H12]; · iexact H12
  isplitl [H13]; · iexact H13
  isplitl [H14]; · iexact H14
  iexact H15

/-- What each piece of the result holds. -/
def outPiece (x : Bool × Fin 4) : Vec F S256x2048 .f32 :=
  match x with
  | (false, 0) => widen (tv m (src 0 c) false)
  | (false, 1) => sv m c false
  | (false, 2) => widen (tv m (src 1 c) false)
  | (false, 3) => widen (tv m (src 2 c) false)
  | (true, 0) => widen (tv m (src 1 c) true)
  | (true, 1) => widen (tv m (src 2 c) true)
  | (true, 2) => widen (tv m (src 0 c) true)
  | (true, 3) => sv m c true

/-- What the result holds. -/
def outAt : Vec F S2048x2048 .f32 := Rect.glue (rects c) (rects_cover c) (fun x => outPiece m c x)

/-- The result's staging buffer is its eight pieces, -/
theorem blank_of : iprop(∃ f : Buf (Elt F) ((c : Thread nD τ).loc cc0_stg1_0), ((c : Thread nD τ).loc cc0_stg1_0) ↦{fullShare} f) ⊢ (blank c : sProp 𝕄) := by
  rw [← any_whole c cc0_stg1_0]
  refine BIBase.Entails.trans (cut_any c (Memref.whole cc0_stg1_0 : Memref sig .tc .vmem S2048x2048 .f32) (rects c) (fun _ _ => rfl) (rects_apart c) (rects_cover c)) ?_
  rw [bigSep_rects]
  exact .rfl
/-- and filled, they are it at `outAt`. -/
theorem of_filled : filled m c ⊢ ((((c : Thread nD τ).loc cc0_stg1_0) ↦{fullShare} (outAt m c : Buf (Elt F) ((c : Thread nD τ).loc cc0_stg1_0))) : sProp 𝕄) := by
  refine BIBase.Entails.trans ?_ (BIBase.Entails.trans (glue_at c (Memref.whole cc0_stg1_0 : Memref sig .tc .vmem S2048x2048 .f32) (rects c) (fun _ _ => rfl) (rects_apart c) (rects_cover c) (fun x => outPiece m c x))
    (BIBase.Entails.of_eq (owns_whole (c : Thread nD τ) cc0_stg1_0 fullShare (outAt m c))))
  rw [bigSep_rects]
  exact .rfl

end Cert.Mesh

end
-- ==== Proof.Obligation.lean ====
/- The body under the pipeline that stages its right factor and its result. -/
module

public import proofs.«01_k».proof.Proof.Pieces

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg) (K : Dev nD × Ck → ℕ) (c : Dev nD)

/-- What device `c` starts the body from, its buffers aside: the records, its tokens and dues, and both fetch slots idle. -/
def start (c : Dev nD) : sProp 𝕄 := iprop(∃ K, recs m K ∗ kit c ∗ fidle m c 0 0 ∗ fidle m c 1 0)
/-- The left factor's block, whole. -/
def leftA (c : Dev nD) : sProp 𝕄 := ((c : Thread nD τ).loc main_arg0) ↦{fullShare} m ((c : Thread nD τ).loc main_arg0)
/-- Every semaphore of device `c` back at zero. -/
def still (c : Dev nD) : sProp 𝕄 := iprop(over c ∗ shut c (.fet 0) ∗ shut c (.fet 1))

/-- Before the body, -/
def before (c : Dev nD) : sProp 𝕄 := iprop(start m c ∗ scratch c)
/-- and after it. -/
def after (c : Dev nD) : sProp 𝕄 := iprop(still c ∗ leftA m c ∗ scratch c)

/-- The pipeline's data: one point, the right factor's block staged in, the result staged out. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => bv m c
    | ⟨1, _⟩ => outAt m c
  Φ t := match t with
    | ⟨0, _⟩ => before m c
    | ⟨_ + 1, _⟩ => after m c
  q _ := fullShare
  owed t := match t with
    | ⟨0, _⟩ => owe (debts c)
    | ⟨_ + 1, _⟩ => 0

/-- The two windows. -/
theorem bigSep_wins (Φ : Fin cfg0.W → sProp 𝕄) : bigSep Finset.univ Φ = iprop(Φ (0 : Fin 2) ∗ Φ (1 : Fin 2)) := bigSep_W0 Φ

/-- A whole buffer owned at `X`. -/
theorem owns_at (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

/-- A staging buffer of device `c` at `X`. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

/-- A fetch slot done with all four fetches closes, its half share of the left factor back. -/
theorem fetch_over (s : Fin 2) : iprop(recs m K ∗ fidle m c s 4) ⊢ (|={Set.univ}=> iprop(shut c (.fet s) ∗ allA m s c) : sProp 𝕄) := by
  unfold fidle
  iintro ⟨#HR, Hat, -, -, HA⟩
  imod (Rounds.cell_close ER (rd m) (Set.mem_univ (K (c, .fet s))) (fun h => h) (R := 4) (fun r hr => rd_later m c (.fet s) r hr)) $$ [Hat] with Hz
  · isplitr; · iapply (recs_inv m K c (.fet s)); iexact HR
    iexact Hat
  imodintro
  isplitl [Hz]; · iexact Hz
  iexact HA

/-- The left factor at its two fetch slots' shares. -/
theorem leftA_halves : (leftA m c : sProp 𝕄) ⊣⊢ iprop(allA m 0 c ∗ allA m 1 c) := by
  unfold leftA allA
  exact pointsTo_share (PosShare.mem_left_op_right fullShare)

/-- What the pipeline hands the body, -/
def bodyPre (c : Dev nD) : sProp 𝕄 :=
  iprop(before m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- and what it takes back. -/
def bodyPost (c : Dev nD) : sProp 𝕄 :=
  iprop(after m c ∗ (dats m ρ 0 c).owesAt () t0_0.succ ∗ stg c cc0_stg0_0 (bv m c) ∗ stg c cc0_stg1_0 (outAt m c))

set_option maxHeartbeats 1000000 in
/-- The body from one to the other. -/
theorem body_sound :
    bodyPre m ρ c ⊢ Run c (cc0_body (Memref.whole main_arg0) (Memref.isWhole_whole _) (Memref.whole cc0_stg0_0) (Memref.isWhole_whole _) (Memref.whole cc0_stg1_0) (Memref.isWhole_whole _)
        (Memref.whole cc0_scratch0) (Memref.isWhole_whole _) (Memref.whole cc0_scratch1) (Memref.isWhole_whole _) (Memref.whole cc0_scratch2) (Memref.isWhole_whole _)
        cc0_scratch3 cc0_scratch4 cc0_scratch5 cc0_scratch6 cc0_scratch7 cc0_scratch8) (fun _ => bodyPost m ρ c) := by
  unfold bodyPre before start
  iintro ⟨⟨⟨%K, #HR, Hkit, Hf0, Hf1⟩, Hscr⟩, Ho, ⟨%d0, %g0, %hg0, Hx⟩, ⟨%d1, %g1, %hg1, Hout⟩⟩
  have hx : g0 = bv m c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = owe (debts c) from rfl]
  ihave Hb := (board_of_scratch c) $$ Hscr
  ihave Hbl := (blank_of c) $$ [Hout]
  · iexists g1; iexact Hout
  iapply (body_run m K c (fun _ => bodyPost m ρ c)) $$ [HO Hkit Hf0 Hf1 Hx Hb Hbl]
  · isplitr; · iexact HR
    isplitl [HO]
    · unfold owing; iexists W; iexact HO
    isplitl [Hkit]; · iexact Hkit
    isplitl [Hf0]; · iexact Hf0
    isplitl [Hf1]; · iexact Hf1
    isplitl [Hx]; · unfold rightB; iexact Hx
    isplitl [Hb] <;> iassumption
  iintro ⟨HO, Hov, Hf0, Hf1, Hx, Hb, Hfl⟩
  rw [Run, wp_ret]
  imod (fetch_over m K c 0) $$ [Hf0] with ⟨Hz0, HA0⟩
  · isplitr; · iexact HR
    iexact Hf0
  imod (fetch_over m K c 1) $$ [Hf1] with ⟨Hz1, HA1⟩
  · isplitr; · iexact HR
    iexact Hf1
  imodintro
  ihave Hscr := (scratch_of_board c) $$ Hb
  ihave Hout := (of_filled m c) $$ Hfl
  unfold bodyPost after still
  isplitl [Hov Hz0 Hz1 HA0 HA1 Hscr]
  · isplitl [Hov Hz0 Hz1]
    · isplitl [Hov]; · iexact Hov
      isplitl [Hz0] <;> iassumption
    isplitl [HA0 HA1]
    · iapply (leftA_halves m c).2
      isplitl [HA0] <;> iassumption
    iexact Hscr
  isplitl [HO]
  · unfold owing
    icases HO with ⟨%W', HO⟩
    unfold Dat.owesAt Pipeline.owesWithin
    rw [show (dats m ρ 0 c).owed t0_0.succ = owe (debtsAt c 18) from rfl]
    iexists W'
    isplitr; · ipureintro; exact fun _ _ => Or.inl trivial
    iexact HO
  isplitl [Hx]
  · iexists _; isplitr; · (ipureintro; rfl)
    unfold rightB
    iexact Hx
  iexists _; isplitr; · (ipureintro; rfl)
  iexact Hout

set_option maxRecDepth 16384 in
/-- The library's obligation for the body. -/
theorem body_obligation : BodyObligation (dats (F := F) m ρ 0 c) (defs₀ (F := F)) 𝒱₀ () Set.univ := fun t => by
  rw [fin_N0 t]
  rw [bigSep_wins, bigSep_wins]
  simp only [owns_at]
  show bodyPre m ρ c ⊢ wp frame (wpE (defs₀ (F := F)) 𝒱₀ (c : Thread nD τ) none) Set.univ (bodyAt0 t0_0) (fun _ => bodyPost m ρ c)
  exact body_sound m ρ c

end Cert.Mesh

end
-- ==== Proof.Launch.lean ====
/- The launch: tokens, cells and credits dealt to the devices, and the run of the whole program. -/
module

public import Idealize.ShloMosaic.Lib.Pipeline.CollectiveSegs
public import proofs.«01_k».proof.Proof.Obligation

@[expose] public section

noncomputable section

namespace Cert.Mesh

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg) (K : Dev nD × Ck → ℕ) (c : Dev nD)

/-! ## The tokens a device pays with -/

/-- The contributions a device makes: its signals, its fetches, and for each transfer the two ends. -/
inductive Tk
  | bar (p : Fin 3) | ack (p : Fin 3) | fet (s : Fin 2) (r : Fin 4)
  | ssc (p : Fin 3) (h : Bool) | rsc (p : Fin 3) (h : Bool) | sga (p : Fin 3) (h : Bool) | rga (p : Fin 3) (h : Bool)
deriving DecidableEq

/-- The contributions, listed. -/
def allTk : List Tk :=
  [.bar 0, .bar 1, .bar 2, .ack 0, .ack 1, .ack 2, .fet 0 0, .fet 0 1, .fet 0 2, .fet 0 3, .fet 1 0, .fet 1 1, .fet 1 2, .fet 1 3, .ssc 0 false, .ssc 1 false, .ssc 2 false, .ssc 0 true, .ssc 1 true, .ssc 2 true, .rsc 0 false, .rsc 1 false, .rsc 2 false, .rsc 0 true, .rsc 1 true, .rsc 2 true, .sga 0 false, .sga 1 false, .sga 2 false, .sga 0 true, .sga 1 true, .sga 2 true, .rga 0 false, .rga 1 false, .rga 2 false, .rga 0 true, .rga 1 true, .rga 2 true]

/-- The list has them all. -/
theorem mem_allTk (k : Tk) : k ∈ allTk := by
  cases k with
  | bar p => revert p; decide
  | ack p => revert p; decide
  | fet s r => revert s r; decide
  | ssc p h => revert p h; decide
  | rsc p h => revert p h; decide
  | sga p h => revert p h; decide
  | rga p h => revert p h; decide

/-- There are finitely many contributions. -/
instance : Fintype Tk := ⟨⟨allTk, by decide⟩, mem_allTk⟩

/-- The cell, round and part of a contribution. -/
def keyOf (x : Dev nD × Tk) : (Dev nD × Ck) × ℕ × Fin 3 :=
  match x.2 with
  | .bar p => ((src p x.1, .bar), 0, p)
  | .ack p => ((src p x.1, .ack), 0, p)
  | .fet s r => ((x.1, .fet s), r.val, 0)
  | .ssc p h => ((x.1, .ssc p h), 0, 0)
  | .rsc p h => ((tgt p x.1, .rsc p h), 0, 0)
  | .sga p h => ((x.1, .sga p h), 0, 0)
  | .rga p h => ((tgt p x.1, .rga p h), 0, 0)

/-- Whose contribution a cell, round and part is. -/
def ofKey (y : (Dev nD × Ck) × ℕ × Fin 3) : Dev nD × Tk :=
  match y.1.2 with
  | .bar => (tgt y.2.2 y.1.1, .bar y.2.2)
  | .ack => (tgt y.2.2 y.1.1, .ack y.2.2)
  | .fet s => (y.1.1, .fet s (Fin.ofNat 4 y.2.1))
  | .ssc p h => (y.1.1, .ssc p h)
  | .rsc p h => (src p y.1.1, .rsc p h)
  | .sga p h => (y.1.1, .sga p h)
  | .rga p h => (src p y.1.1, .rga p h)

/-- Each contribution is one device's. -/
theorem ofKey_keyOf (x : Dev nD × Tk) : ofKey (keyOf x) = x := by
  obtain ⟨c, k⟩ := x
  cases k with
  | bar p => revert c p; decide
  | ack p => revert c p; decide
  | fet s r => revert c s r; decide
  | ssc p h => rfl
  | rsc p h => revert c p h; decide
  | sga p h => rfl
  | rga p h => revert c p h; decide

/-- The token of a contribution. -/
abbrev tokOf (x : Dev nD × Tk) : GSem nD τ sig × ℕ × Fin 3 := (cell (keyOf x).1.1 (keyOf x).1.2, (keyOf x).2)

/-- Different contributions have different tokens. -/
theorem tokOf_inj : Function.Injective tokOf := fun x y h => by
  have h1 := cell_inj (congrArg Prod.fst h)
  have h2 : (keyOf x).2 = (keyOf y).2 := congrArg (fun z : GSem nD τ sig × ℕ × Fin 3 => z.2) h
  rw [← ofKey_keyOf x, ← ofKey_keyOf y]
  exact congrArg ofKey (Prod.ext (Prod.ext h1.1 h1.2) h2)

/-- A cell of the machine, of its device and kind. -/
abbrev cellAt (x : Dev nD × Ck) : GSem nD τ sig := cell x.1 x.2
/-- Different devices and kinds have different cells. -/
theorem cellAt_inj : Function.Injective cellAt := fun x y h => Prod.ext (cell_inj h).1 (cell_inj h).2

/-- All the cells of the schedule. -/
def theCells : Finset (GSem nD τ sig) := Finset.univ.map ⟨cellAt, cellAt_inj⟩
/-- All the contributions of the schedule, as tokens. -/
def theToks : Finset (GSem nD τ sig × ℕ × Fin 3) := Finset.univ.map ⟨tokOf, tokOf_inj⟩

/-- The resources of the launch: the pipeline's own, and the schedule's cells and tokens. -/
def u₀ : UU := (initOf (Pipeline.cells cfgs cellOf_inj) (Pipeline.launchToks cfgs cellOf_inj), initOf theCells theToks)

/-- The tokens of device `c`'s contributions. -/
def toks (c : Dev nD) : sProp 𝕄 := bigSep Finset.univ fun j : Tk => dutyTok ER (tokOf (c, j)).1 (tokOf (c, j)).2.1 (tokOf (c, j)).2.2
/-- Device `c` at the beginning of each of its cells. -/
def places (c : Dev nD) : sProp 𝕄 := bigSep Finset.univ fun k : Ck => atPos ER (cell c k) 0 ∅ 0
/-- The records but for the levels. -/
def known (K : Dev nD × Ck → ℕ) : sProp 𝕄 :=
  bigSep Finset.univ fun x : Dev nD × Ck => iprop(cellInv ER (rd m) (K x) (cell x.1 x.2) ∗ reached ER (cell x.1 x.2) 0)

/-- What all the devices know may be used more than once. -/
instance known_persistent (K : Dev nD × Ck → ℕ) : BI.Persistent (known m K) := by unfold known; infer_instance

/-- What the launch deals device `c`, -/
def G (c : Dev nD) : sProp 𝕄 :=
  iprop((bigSep Finset.univ fun k : Ck => roundState ER (rd m) (cell c k) 0)
    ∗ (bigSep Finset.univ fun k : Ck => reached ER (cell c k) 0) ∗ places c ∗ toks c)
/-- and what the devices make of it together. -/
def G' (c : Dev nD) : sProp 𝕄 := iprop(∃ K, known m K ∗ places c ∗ toks c)

/-- The schedule's share of the launch, dealt. -/
theorem fund_all : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : Ck => Φ (cell c k) := by
    unfold theCells; rw [bigSep_map, bigSep_univ_prod]; rfl
  have hT : bigSep theToks (fun x => (dutyTok ER x.1 x.2.1 x.2.2 : sProp 𝕄)) = bigSep Finset.univ fun c : Dev nD => toks c := by
    unfold theToks toks; rw [bigSep_map, bigSep_univ_prod]; rfl
  iintro HX
  imod (Rounds.fund ER (rd m) theCells theToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  isplitl [Hst']; · iexact Hst'
  isplitl [Hr']; · iexact Hr'
  isplitl [Hat']; · iexact Hat'
  iexact Htok'

/-! ## The semaphores -/

/-- The kernel's own semaphores: every cell's but the barrier's. -/
abbrev osem (k : {k : Ck // k ≠ .bar}) : SemLoc sig := semOf k.1

/-- The kernel's own semaphores are none of the pipeline's. -/
theorem ownSemFacts : Pipeline.OwnSemFacts cfg0.spec osem := by decide +kernel

/-- The own semaphores and the barrier's are the cells'. -/
theorem sems_eq : (iprop(unscopedSems0 c ∗ Pipeline.ownSems0 (Ix := Unit) (Name := ℕ) (U := UU) (Lvl := ℕ) (Val := Elt F) (τ := τ) osem c) : sProp 𝕄)
    = bigSep Finset.univ fun k : Ck => semVal (cell c k) 0 := by
  rw [BI.bigSep_univ_at (fun k : Ck => (semVal (cell c k) 0 : sProp 𝕄)) .bar, ← BI.bigSep_subtype_ne Ck.bar fun k : Ck => (semVal (cell c k) 0 : sProp 𝕄)]
  unfold unscopedSems0 Pipeline.ownSems0
  rw [bigSep_eq_bigSepL_of_eq [SemLoc.reg (1 : Fin 2)] (by decide +kernel) (by decide)]
  rfl

/-- Each device opens its cells, -/
theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (cell c k)))
          ∗ (bigSep Finset.univ fun k : Ck => reached ER (cell c k) 0) ∗ places c ∗ toks c) := by
  unfold G
  iintro ⟨Hos, Hus, Hst, Hr, Hat, Htok⟩
  ihave Hv := (Entails.of_eq (sems_eq (F := F) c)) $$ [Hos Hus]
  · isplitl [Hus] <;> iassumption
  imod (show iprop((bigSep Finset.univ fun k : Ck => semVal (cell c k) 0) ∗ bigSep Finset.univ fun k : Ck => roundState ER (rd m) (cell c k) 0)
      ⊢ (|={Set.univ}=> bigSep Finset.univ fun k => iprop(∃ κ : ℕ, cellInv ER (rd m) κ (cell c k)) : sProp 𝕄) from by
        rw [← bigSep_sep']
        exact (bigSep_mono fun k _ => (Rounds.body_intro ER (rd m) (cell c k)).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

/-- A fact all hold in common goes to each. -/
theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- and the cells' names become common knowledge. -/
theorem share_names :
    (bigSep Finset.univ fun c : Dev nD => iprop((bigSep Finset.univ fun k => iprop(∃ κ : ℕ, cellInv ER (rd m) κ (cell c k)))
          ∗ (bigSep Finset.univ fun k : Ck => reached ER (cell c k) 0) ∗ places c ∗ toks c) : sProp 𝕄)
      ⊢ bigSep Finset.univ (G' m) := by
  rw [bigSep_sep', bigSep_sep', ← bigSep_univ_prod (fun x : Dev nD × Ck => iprop(∃ κ : ℕ, cellInv ER (rd m) κ (cell x.1 x.2))),
    ← bigSep_univ_prod (fun x : Dev nD × Ck => (reached ER (cell x.1 x.2) 0 : sProp 𝕄))]
  iintro ⟨HI, HR, Hrest⟩
  ihave HK := (BI.bigSep_exists_pi Finset.univ (fun (x : Dev nD × Ck) (κ : ℕ) => (cellInv ER (rd m) κ (cell x.1 x.2) : sProp 𝕄))) $$ HI
  icases HK with ⟨%K, HI⟩
  ihave HIR := (Entails.of_eq (bigSep_sep' Finset.univ (fun x : Dev nD × Ck => (cellInv ER (rd m) (K x) (cell x.1 x.2) : sProp 𝕄)) (fun x => reached ER (cell x.1 x.2) 0)).symm) $$ [HI HR]
  · isplitl [HI] <;> iassumption
  ihave #Hkn := (show (bigSep Finset.univ fun x : Dev nD × Ck => iprop(cellInv ER (rd m) (K x) (cell x.1 x.2) ∗ reached ER (cell x.1 x.2) 0)) ⊢ known m K from .rfl) $$ HIR
  iapply (to_each (R := known m K) (Φ := fun c => iprop(places c ∗ toks c)) fun c _ => show iprop(known m K ∗ places c ∗ toks c) ⊢ G' m c from by
    unfold G'; iintro H; iexists K; iexact H)
  isplitr; · iexact Hkn
  iexact Hrest

/-- The step all devices take together. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (share_names m))

/-! ## The credits -/

/-- A list of debts, at one cell: as many contributions as it is in the list. -/
theorem owe_at (l : List (Dev nD × Ck)) (c : Dev nD) (k : Ck) : owe l (cell c k) () = l.count (c, k) * amt k := by
  induction l with
  | nil => exact (Nat.zero_mul _).symm
  | cons x l ih =>
    rw [owe_cons, Pi.add_apply, Finsupp.add_apply, ih, tallyAt_apply, List.count_cons]
    by_cases hx : x = (c, k)
    · subst hx
      rw [if_pos ⟨rfl, rfl⟩, if_pos (beq_self_eq_true _)]
      exact (Nat.succ_mul _ _).symm
    · rw [if_neg (fun h => hx (Prod.ext (cell_inj h.1).1.symm (cell_inj h.1).2.symm)), if_neg (fun h => hx (eq_of_beq h)), Nat.add_zero, Nat.add_zero]

/-- How many contributions of the other devices a cell is to get. -/
def heads : Ck → ℕ | .bar => 3 | .ack => 3 | .rsc _ _ => 1 | .rga _ _ => 1 | _ => 0

/-- That many debts name it. -/
theorem sum_heads (c : Dev nD) (k : Ck) : ∑ d : Dev nD, (debts d).count (c, k) = heads k := by revert c k; decide +kernel

/-- So its credit at launch is its whole round. -/
theorem launch_at (c : Dev nD) (k : Ck) (h : heads k * amt k = tot k) :
    tallyOn (cell c k) (launchCredit (Pipeline.owing fun d => owe (debts d)) 0 (cell c k)) = (tallyAt (cell c k) () (tot k) : CellTallies nD τ sig Unit) := by
  unfold tallyAt; refine congrArg _ (Finsupp.ext fun u => ?_); cases u
  rw [Pipeline.launchCredit_owing, Finsupp.single_eq_same, Finset.sum_congr rfl fun d _ => owe_at (debts d) c k, ← Finset.sum_mul, sum_heads, h]

/-- The launch's credits include every cell's. -/
theorem creds : (Pipeline.launchCred (fun d => owe (debts d)) c : sProp 𝕄)
    ⊢ bigSep Finset.univ fun k : Ck => cred (tallyOn (cell c k) (launchCredit (Pipeline.owing fun d => owe (debts d)) 0 (cell c k))) := by
  unfold Pipeline.launchCred
  refine BIBase.Entails.trans (BI.bigSep_subset (Finset.subset_univ (Finset.univ.map ⟨semOf, semOf_inj⟩))) ?_
  rw [bigSep_map]
  exact .rfl

/-- All of a family over the cells, listed. -/
theorem bigSep_cells (Φ : Ck → sProp 𝕄) : bigSep Finset.univ Φ
    = iprop(Φ (.bar) ∗ Φ (.ack) ∗ Φ (.fet 0) ∗ Φ (.fet 1) ∗ Φ (.ssc 0 false) ∗ Φ (.ssc 0 true) ∗ Φ (.ssc 1 false) ∗ Φ (.ssc 1 true) ∗ Φ (.ssc 2 false) ∗ Φ (.ssc 2 true) ∗ Φ (.rsc 0 false) ∗ Φ (.rsc 0 true) ∗ Φ (.rsc 1 false) ∗ Φ (.rsc 1 true) ∗ Φ (.rsc 2 false) ∗ Φ (.rsc 2 true) ∗ Φ (.sga 0 false) ∗ Φ (.sga 0 true) ∗ Φ (.sga 1 false) ∗ Φ (.sga 1 true) ∗ Φ (.sga 2 false) ∗ Φ (.sga 2 true) ∗ Φ (.rga 0 false) ∗ Φ (.rga 0 true) ∗ Φ (.rga 1 false) ∗ Φ (.rga 1 true) ∗ Φ (.rga 2 false) ∗ Φ (.rga 2 true)) :=
  bigSep_univ_eq_bigSepL allCk (by decide +kernel) (by decide +kernel) Φ
/-- All of a family over the contributions, listed. -/
theorem bigSep_toks (Φ : Tk → sProp 𝕄) : bigSep Finset.univ Φ
    = iprop(Φ (.bar 0) ∗ Φ (.bar 1) ∗ Φ (.bar 2) ∗ Φ (.ack 0) ∗ Φ (.ack 1) ∗ Φ (.ack 2) ∗ Φ (.fet 0 0) ∗ Φ (.fet 0 1) ∗ Φ (.fet 0 2) ∗ Φ (.fet 0 3) ∗ Φ (.fet 1 0) ∗ Φ (.fet 1 1) ∗ Φ (.fet 1 2) ∗ Φ (.fet 1 3) ∗ Φ (.ssc 0 false) ∗ Φ (.ssc 1 false) ∗ Φ (.ssc 2 false) ∗ Φ (.ssc 0 true) ∗ Φ (.ssc 1 true) ∗ Φ (.ssc 2 true) ∗ Φ (.rsc 0 false) ∗ Φ (.rsc 1 false) ∗ Φ (.rsc 2 false) ∗ Φ (.rsc 0 true) ∗ Φ (.rsc 1 true) ∗ Φ (.rsc 2 true) ∗ Φ (.sga 0 false) ∗ Φ (.sga 1 false) ∗ Φ (.sga 2 false) ∗ Φ (.sga 0 true) ∗ Φ (.sga 1 true) ∗ Φ (.sga 2 true) ∗ Φ (.rga 0 false) ∗ Φ (.rga 1 false) ∗ Φ (.rga 2 false) ∗ Φ (.rga 0 true) ∗ Φ (.rga 1 true) ∗ Φ (.rga 2 true)) :=
  bigSep_univ_eq_bigSepL allTk (by decide +kernel) (by decide +kernel) Φ

/-- The four tokens of a fetch slot. -/
theorem ftok_of (s : Fin 2) : (iprop(dutyTok ER (cell c (.fet s)) 0 0 ∗ dutyTok ER (cell c (.fet s)) 1 0 ∗ dutyTok ER (cell c (.fet s)) 2 0 ∗ dutyTok ER (cell c (.fet s)) 3 0) : sProp 𝕄)
    = ftok c s 0 := by
  unfold ftok
  rw [bigSep_eq_bigSepL_of_eq [0, 1, 2, 3] (by decide) (by decide)]
  rfl

set_option maxHeartbeats 2000000 in
/-- Places, tokens and credits make the kit and the two fetch slots' beginnings. -/
theorem kit_of :
    iprop(places c ∗ toks c ∗ Pipeline.launchCred (fun d => owe (debts d)) c)
      ⊢ (iprop(kit c ∗ (atPos ER (cell c (.fet 0)) 0 ∅ 0 ∗ ftok c 0 0) ∗ atPos ER (cell c (.fet 1)) 0 ∅ 0 ∗ ftok c 1 0) : sProp 𝕄) := by
  refine BIBase.Entails.trans (sep_mono_right (sep_mono_right (creds c))) ?_
  unfold places toks
  rw [bigSep_cells (fun k => atPos ER (cell c k) 0 ∅ 0), bigSep_toks,
    bigSep_cells (fun k => cred (tallyOn (cell c k) (launchCredit (Pipeline.owing fun d => owe (debts d)) 0 (cell c k)))), ← ftok_of, ← ftok_of]
  iintro ⟨⟨Pbar, Pack, Pfet0, Pfet1, Pssc0f, Pssc0t, Pssc1f, Pssc1t, Pssc2f, Pssc2t, Prsc0f, Prsc0t, Prsc1f, Prsc1t, Prsc2f, Prsc2t, Psga0f, Psga0t, Psga1f, Psga1t, Psga2f, Psga2t, Prga0f, Prga0t, Prga1f, Prga1t, Prga2f, Prga2t⟩, ⟨Tbar0, Tbar1, Tbar2, Tack0, Tack1, Tack2, Tfet00, Tfet01, Tfet02, Tfet03, Tfet10, Tfet11, Tfet12, Tfet13, Tssc0f, Tssc1f, Tssc2f, Tssc0t, Tssc1t, Tssc2t, Trsc0f, Trsc1f, Trsc2f, Trsc0t, Trsc1t, Trsc2t, Tsga0f, Tsga1f, Tsga2f, Tsga0t, Tsga1t, Tsga2t, Trga0f, Trga1f, Trga2f, Trga0t, Trga1t, Trga2t⟩, Cbar, Cack, -, -, -, -, -, -, -, -, Crsc0f, Crsc0t, Crsc1f, Crsc1t, Crsc2f, Crsc2t, -, -, -, -, -, -, Crga0f, Crga0t, Crga1f, Crga1t, Crga2f, Crga2t⟩
  isplitr [Pfet0 Pfet1 Tfet00 Tfet01 Tfet02 Tfet03 Tfet10 Tfet11 Tfet12 Tfet13]
  · unfold kit
    isplitl [Tbar0]
    · unfold wtok
      iexact Tbar0
    isplitl [Tbar1]
    · unfold wtok
      iexact Tbar1
    isplitl [Tbar2]
    · unfold wtok
      iexact Tbar2
    isplitl [Tack0]
    · unfold wtok
      iexact Tack0
    isplitl [Tack1]
    · unfold wtok
      iexact Tack1
    isplitl [Tack2]
    · unfold wtok
      iexact Tack2
    isplitl [Cbar Pbar]
    · unfold due
      isplitl [Cbar]; · iapply (Entails.of_eq (congrArg cred (launch_at c (.bar) rfl))); iexact Cbar
      iexact Pbar
    isplitl [Cack Pack]
    · unfold due
      isplitl [Cack]; · iapply (Entails.of_eq (congrArg cred (launch_at c (.ack) rfl))); iexact Cack
      iexact Pack
    isplitl [Crsc0f Prsc0f]
    · unfold due
      isplitl [Crsc0f]; · iapply (Entails.of_eq (congrArg cred (launch_at c (.rsc 0 false) rfl))); iexact Crsc0f
      iexact Prsc0f
    isplitl [Crsc1f Prsc1f]
    · unfold due
      isplitl [Crsc1f]; · iapply (Entails.of_eq (congrArg cred (launch_at c (.rsc 1 false) rfl))); iexact Crsc1f
      iexact Prsc1f
    isplitl [Crsc2f Prsc2f]
    · unfold due
      isplitl [Crsc2f]; · iapply (Entails.of_eq (congrArg cred (launch_at c (.rsc 2 false) rfl))); iexact Crsc2f
      iexact Prsc2f
    isplitl [Crsc0t Prsc0t]
    · unfold due
      isplitl [Crsc0t]; · iapply (Entails.of_eq (congrArg cred (launch_at c (.rsc 0 true) rfl))); iexact Crsc0t
      iexact Prsc0t
    isplitl [Crsc1t Prsc1t]
    · unfold due
      isplitl [Crsc1t]; · iapply (Entails.of_eq (congrArg cred (launch_at c (.rsc 1 true) rfl))); iexact Crsc1t
      iexact Prsc1t
    isplitl [Crsc2t Prsc2t]
    · unfold due
      isplitl [Crsc2t]; · iapply (Entails.of_eq (congrArg cred (launch_at c (.rsc 2 true) rfl))); iexact Crsc2t
      iexact Prsc2t
    isplitl [Crga0f Prga0f]
    · unfold due
      isplitl [Crga0f]; · iapply (Entails.of_eq (congrArg cred (launch_at c (.rga 0 false) rfl))); iexact Crga0f
      iexact Prga0f
    isplitl [Crga1f Prga1f]
    · unfold due
      isplitl [Crga1f]; · iapply (Entails.of_eq (congrArg cred (launch_at c (.rga 1 false) rfl))); iexact Crga1f
      iexact Prga1f
    isplitl [Crga2f Prga2f]
    · unfold due
      isplitl [Crga2f]; · iapply (Entails.of_eq (congrArg cred (launch_at c (.rga 2 false) rfl))); iexact Crga2f
      iexact Prga2f
    isplitl [Crga0t Prga0t]
    · unfold due
      isplitl [Crga0t]; · iapply (Entails.of_eq (congrArg cred (launch_at c (.rga 0 true) rfl))); iexact Crga0t
      iexact Prga0t
    isplitl [Crga1t Prga1t]
    · unfold due
      isplitl [Crga1t]; · iapply (Entails.of_eq (congrArg cred (launch_at c (.rga 1 true) rfl))); iexact Crga1t
      iexact Prga1t
    isplitl [Crga2t Prga2t]
    · unfold due
      isplitl [Crga2t]; · iapply (Entails.of_eq (congrArg cred (launch_at c (.rga 2 true) rfl))); iexact Crga2t
      iexact Prga2t
    isplitl [Tssc0f Trsc0f Pssc0f]
    · unfold sready stok
      isplitl [Tssc0f Trsc0f]
      · isplitl [Tssc0f]; · iexact Tssc0f
        iexact Trsc0f
      iexact Pssc0f
    isplitl [Tssc1f Trsc1f Pssc1f]
    · unfold sready stok
      isplitl [Tssc1f Trsc1f]
      · isplitl [Tssc1f]; · iexact Tssc1f
        iexact Trsc1f
      iexact Pssc1f
    isplitl [Tssc2f Trsc2f Pssc2f]
    · unfold sready stok
      isplitl [Tssc2f Trsc2f]
      · isplitl [Tssc2f]; · iexact Tssc2f
        iexact Trsc2f
      iexact Pssc2f
    isplitl [Tssc0t Trsc0t Pssc0t]
    · unfold sready stok
      isplitl [Tssc0t Trsc0t]
      · isplitl [Tssc0t]; · iexact Tssc0t
        iexact Trsc0t
      iexact Pssc0t
    isplitl [Tssc1t Trsc1t Pssc1t]
    · unfold sready stok
      isplitl [Tssc1t Trsc1t]
      · isplitl [Tssc1t]; · iexact Tssc1t
        iexact Trsc1t
      iexact Pssc1t
    isplitl [Tssc2t Trsc2t Pssc2t]
    · unfold sready stok
      isplitl [Tssc2t Trsc2t]
      · isplitl [Tssc2t]; · iexact Tssc2t
        iexact Trsc2t
      iexact Pssc2t
    isplitl [Tsga0f Trga0f Psga0f]
    · unfold gready gtok
      isplitl [Tsga0f Trga0f]
      · isplitl [Tsga0f]; · iexact Tsga0f
        iexact Trga0f
      iexact Psga0f
    isplitl [Tsga1f Trga1f Psga1f]
    · unfold gready gtok
      isplitl [Tsga1f Trga1f]
      · isplitl [Tsga1f]; · iexact Tsga1f
        iexact Trga1f
      iexact Psga1f
    isplitl [Tsga2f Trga2f Psga2f]
    · unfold gready gtok
      isplitl [Tsga2f Trga2f]
      · isplitl [Tsga2f]; · iexact Tsga2f
        iexact Trga2f
      iexact Psga2f
    isplitl [Tsga0t Trga0t Psga0t]
    · unfold gready gtok
      isplitl [Tsga0t Trga0t]
      · isplitl [Tsga0t]; · iexact Tsga0t
        iexact Trga0t
      iexact Psga0t
    isplitl [Tsga1t Trga1t Psga1t]
    · unfold gready gtok
      isplitl [Tsga1t Trga1t]
      · isplitl [Tsga1t]; · iexact Tsga1t
        iexact Trga1t
      iexact Psga1t
    unfold gready gtok
    isplitl [Tsga2t Trga2t]
    · isplitl [Tsga2t]; · iexact Tsga2t
      iexact Trga2t
    iexact Psga2t
  isplitl [Pfet0 Tfet00 Tfet01 Tfet02 Tfet03]
  · isplitl [Pfet0]; · iexact Pfet0
    isplitl [Tfet00]; · iexact Tfet00
    isplitl [Tfet01]; · iexact Tfet01
    isplitl [Tfet02]; · iexact Tfet02
    iexact Tfet03
  isplitl [Pfet1]; · iexact Pfet1
  isplitl [Tfet10]; · iexact Tfet10
  isplitl [Tfet11]; · iexact Tfet11
  isplitl [Tfet12]; · iexact Tfet12
  iexact Tfet13

/-! ## The theorem's side conditions -/

/-- What the launch leaves device `c` makes `start`. -/
theorem start_intro :
    iprop(Pipeline.unscopedRestP Pipeline.Prefetch.none cfg0.spec c (fun b => m ((c : Thread nD τ).loc b)) ∗ levAts L lv
        ∗ Pipeline.launchCred (fun d => owe (debts d)) c ∗ prngReg c (ρ c) ∗ G' m c)
      ⊢ |={Set.univ}=> iprop(start m c ∗ emp) := by
  rw [Pipeline.unscopedRestP_eq_of_list cfg0.spec c Pipeline.Prefetch.none (fun b => m ((c : Thread nD τ).loc b)) [main_arg0] (by decide) (by decide)]
  unfold G'
  iintro ⟨HA, #Hlev, Hcr, -, ⟨%K, #Hkn, Hpl, Htk⟩⟩
  ihave H := (kit_of (F := F) c) $$ [Hpl Htk Hcr]
  · isplitl [Hpl]; · iexact Hpl
    isplitl [Htk] <;> iassumption
  icases H with ⟨Hkit, ⟨Hp0, Ht0⟩, Hp1, Ht1⟩
  ihave HA := (show bigSepL [main_arg0] (fun b => (((c : Thread nD τ).loc b) ↦{fullShare} m ((c : Thread nD τ).loc b) : sProp 𝕄)) ⊢ leftA m c from .rfl) $$ HA
  ihave HA := (leftA_halves m c).1 $$ HA
  icases HA with ⟨HA0, HA1⟩
  imodintro
  isplitl
  · unfold start
    iexists K
    ihave #HR := (show iprop(known m K ∗ levAts L lv) ⊢ recs m K from .rfl) $$ []
    · isplitr; · iexact Hkn
      iexact Hlev
    isplitr; · iexact HR
    isplitl [Hkit]; · iexact Hkit
    unfold fidle
    isplitl [Hp0 Ht0 HA0]
    · isplitl [Hp0]; · iexact Hp0
      isplitr; · iapply (recs_reached m K c (.fet 0)); iexact HR
      isplitl [Ht0] <;> iassumption
    isplitl [Hp1]; · iexact Hp1
    isplitr; · iapply (recs_reached m K c (.fet 1)); iexact HR
    isplitl [Ht1] <;> iassumption
  · iempintro

/-- With its scratch buffers, that is where the body begins. -/
theorem before_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold before scratch
  iintro ⟨Hs, -, Hr⟩
  isplitl [Hs]; · iexact Hs
  iexact Hr

/-- The cells closed are the semaphores at zero. -/
theorem sems_of_still : still c ⊢ (iprop(unscopedSems0 c ∗ Pipeline.ownSems0 (Ix := Unit) (Name := ℕ) (U := UU) (Lvl := ℕ) (Val := Elt F) (τ := τ) osem c) : sProp 𝕄) := by
  rw [sems_eq, bigSep_cells]
  unfold still over
  iintro ⟨⟨Zbar, Zack, Zrsc0f, Zrsc1f, Zrsc2f, Zrsc0t, Zrsc1t, Zrsc2t, Zrga0f, Zrga1f, Zrga2f, Zrga0t, Zrga1t, Zrga2t, Zssc0f, Zssc1f, Zssc2f, Zssc0t, Zssc1t, Zssc2t, Zsga0f, Zsga1f, Zsga2f, Zsga0t, Zsga1t, Zsga2t⟩, Zfet0, Zfet1⟩
  isplitl [Zbar]; · iexact Zbar
  isplitl [Zack]; · iexact Zack
  isplitl [Zfet0]; · iexact Zfet0
  isplitl [Zfet1]; · iexact Zfet1
  isplitl [Zssc0f]; · iexact Zssc0f
  isplitl [Zssc0t]; · iexact Zssc0t
  isplitl [Zssc1f]; · iexact Zssc1f
  isplitl [Zssc1t]; · iexact Zssc1t
  isplitl [Zssc2f]; · iexact Zssc2f
  isplitl [Zssc2t]; · iexact Zssc2t
  isplitl [Zrsc0f]; · iexact Zrsc0f
  isplitl [Zrsc0t]; · iexact Zrsc0t
  isplitl [Zrsc1f]; · iexact Zrsc1f
  isplitl [Zrsc1t]; · iexact Zrsc1t
  isplitl [Zrsc2f]; · iexact Zrsc2f
  isplitl [Zrsc2t]; · iexact Zrsc2t
  isplitl [Zsga0f]; · iexact Zsga0f
  isplitl [Zsga0t]; · iexact Zsga0t
  isplitl [Zsga1f]; · iexact Zsga1f
  isplitl [Zsga1t]; · iexact Zsga1t
  isplitl [Zsga2f]; · iexact Zsga2f
  isplitl [Zsga2t]; · iexact Zsga2t
  isplitl [Zrga0f]; · iexact Zrga0f
  isplitl [Zrga0t]; · iexact Zrga0t
  isplitl [Zrga1f]; · iexact Zrga1f
  isplitl [Zrga1t]; · iexact Zrga1t
  isplitl [Zrga2f]; · iexact Zrga2f
  iexact Zrga2t

/-- What device `c` ends with beyond the pipeline's own. -/
def ending (c : Dev nD) : sProp 𝕄 := iprop(unscopedSems0 c ∗ leftA m c)

/-- What a device holds after its body: the end of the protocol, its own semaphores and the rest of its scratch. -/
theorem after_exit :
    (dats m ρ 0 c).Φ (Fin.last cfg0.N) ⊢ iprop(ending m c ∗ Pipeline.ownSems0 osem c ∗ Pipeline.scopedRest cfg0.spec c) := by
  rw [show (dats m ρ 0 c).Φ (Fin.last cfg0.N) = after m c from rfl, scopedRest0_eq]
  unfold after ending
  iintro ⟨Hz, HA, Hs⟩
  ihave Hz := (sems_of_still c) $$ Hz
  icases Hz with ⟨Hu, Ho⟩
  isplitl [Hu HA]
  · isplitl [Hu] <;> iassumption
  isplitl [Ho]; · iexact Ho
  unfold scratch
  iexact Hs

/-- The staging semaphores are at the bottom level, -/
theorem stage_low (c : Dev nD) (w : Fin cfg0.W) (s : Fin (cfg0.win w).nbuf) : lv ((c : Thread nD τ), .dma ((cfg0.win w).sem s)) () = 0 := by
  revert c w s; decide +kernel
/-- and below every debt. -/
theorem debts_above (c : Dev nD) : ∀ x ∈ debts c, 0 < lvl x.2 := by revert c; decide +kernel
/-- So a device may wait for them whatever it owes. -/
theorem waits : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ 0 (stage_low c w s) (debts c) (debts_above c)
    · exact mayWait_of c _ 0 (stage_low c w s) [] (fun x hx => absurd hx List.not_mem_nil)

/-- Every window is held whole. -/
theorem share_eq (w : Fin cfg0.W) : (dats m ρ 0 c).share w = fullShare := by unfold Dat.share; split <;> rfl

/-! ## The run -/

/-- What an array the pipeline stages holds at the end. -/
def finalA (w : Fin cfg0.W) : Buf (Elt F) ((cfg0.win w).arr.view.loc (c : Thread nD τ)) := (dats m ρ 0 c).arrAt w cfg0.N

/-- What the end of the run is known to hold. -/
def Ended (r : PUnit × MemSt nD τ sig (Elt F)) : Prop :=
  (∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0)) ∧ r.2.sem = fun _ => 0

set_option maxRecDepth 16384 in
/-- For any float values, from any memory with zero counters: every weakly fair execution of the program on the four
    devices ends, with the staged arrays as computed, the left factor unchanged and every semaphore at zero. -/
theorem run_main : θ_run defs (onTc (τ := τ) (main (F := F))) (s₀ m ρ) (Ended m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owe (debts d)) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := ending m) (Z := fun _ => iprop(emp))
    (hX := start_intro m ρ) (hin := before_intro m ρ) (hout := after_exit m ρ)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => by
      unfold ending leftA
      iintro ⟨⟨Hu, HA⟩, -, HSI⟩
      icombine HSI HA gives %h
      imod (Pipeline.unscopedSems0_read (X := unscopedSems0 c) (c := c) fupd_intro s') $$ [Hu HSI] with ⟨%hs, HSI⟩
      · isplitl [Hu] <;> iassumption
      imodintro
      isplitr; · ipureintro; exact ⟨hs, Buf.eq_of_forall_mem_univ h⟩
      iexact HSI)
    (hQ := fun _ h hs => ⟨fun c => ⟨fun w => (h c).1 w, (h c).2.2.2⟩, sem_eq_zero hs fun c => (h c).2.2.1⟩)

/-- The right factor's array after the run holds what it held. -/
theorem finalA_in : finalA m ρ c (0 : Fin 2) = m ((c : Thread nD τ).loc main_arg1) :=
  (dats (F := F) m ρ 0 c).arrAt_in (0 : Fin 2) rfl _

end Cert.Mesh

end
-- ==== Proof.Product.lean ====
/- What one block computes, in exact arithmetic: the product of 256 rows, and the sum of four such products. -/
module

public import proofs.«01_k».proof.Proof.Cells
public import Idealize.ShloMosaic.PureOps.Ideal.Laws
public import Idealize.ShloMosaic.Lib.ValueIdx
public import Idealize.ShloMosaic.Lib.Pipeline.Value

@[expose] public section

noncomputable section

namespace Cert.Mesh

open Idealize.ShloMosaic Idealize.ShloMosaic.TcCoe Idealize.ShloMosaic.ValueIdx
open Cert.KernelIdeal Cert.KernelIdeal.Gen
open scoped BigOperators

/-- The contraction of a block product. -/
abbrev dotB : DotDims S256x1024 S1024x2048 S256x2048 := dot_S256x1024_S1024x2048_S256x2048_1_0_0_1_n_n

/-- Its one contracted axis. -/
abbrev conB : dotB.contr.Idx ≃ Fin 1024 := contrEquiv1 dotB 1024 rfl rfl

/-- The element of the left operand a term reads, -/
theorem dotB_lhs (r : Fin 256) (j : Fin 2048) (t : Fin 1024) : dotB.lhsIdx (ix2 r j) (conB.symm t) = ix2 r t := by
  apply Shape.idx_ext₂
  · rfl
  · exact contrEquiv1_symm_val dotB 1024 rfl rfl t
/-- and of the right one. -/
theorem dotB_rhs (r : Fin 256) (j : Fin 2048) (t : Fin 1024) : dotB.rhsIdx (ix2 r j) (conB.symm t) = ix2 t j := by
  apply Shape.idx_ext₂
  · exact contrEquiv1_symm_val dotB 1024 rfl rfl t
  · rfl

/-- A block product at an element: the sum of the products along the contracted axis. -/
theorem prodOf_at (X : Vec Ideal S256x1024 .f32) (B : Vec Ideal S1024x2048 .f32) (r : Fin 256) (j : Fin 2048) :
    (prodOf X B (ix2 r j) : EReal) = ∑ t : Fin 1024, (X (ix2 r t) : EReal) * (B (ix2 t j) : EReal) := by
  unfold prodOf
  rw [shapeCast_self, shapeCast_self]
  show FloatOps.matmul (F := Ideal) (φ₁ := .f32) (φ₂ := .f32) dotB none X B (constant S256x2048 .f32 0x00000000#32) (ix2 r j) = _
  rw [Ideal.matmul_constant_zero_apply, ← Equiv.sum_comp conB.symm]
  exact Finset.sum_congr rfl fun t _ => by rw [dotB_lhs, dotB_rhs]

/-- Widening changes nothing. -/
theorem widen_at (X : Vec Ideal S256x2048 .bf16) (i : S256x2048.Idx) : (widen X i : EReal) = X i := rfl

/-- Narrowing changes nothing. -/
theorem narrow_at (X : Vec Ideal S256x2048 .f32) (i : S256x2048.Idx) : (narrow X i : EReal) = X i := by
  unfold narrow
  rw [shapeCast_self, shapeCast_self]; rfl

/-- The rectified sum of four blocks at an element. -/
theorem sumOf_at (P L R D : Vec Ideal S256x2048 .bf16) (i : S256x2048.Idx) :
    (sumOf P L R D i : EReal) = max ((P i : EReal) + L i + R i + D i) 0 := by
  show max ((P i : EReal) + L i + R i + D i) (Ideal.ofBits .f32 0x00000000#32) = _
  rw [Ideal.ofBits_zero_f32]

variable (m : (ℓ : Loc nD τ sig) → Buf (Elt Ideal) ℓ) (c : Dev nD)

/-- A device's part of the left factor. -/
abbrev lft (c : Dev nD) : S2048x1024.Idx → EReal := m ((c : Thread nD τ).loc main_arg0)
/-- A device's part of the right factor. -/
abbrev rgt (c : Dev nD) : S1024x2048.Idx → EReal := m ((c : Thread nD τ).loc main_arg1)

/-- Row `r` of a half of a chunk. -/
def rowIx (c : Dev nD) (h : Bool) (k : Fin 4) (r : Fin 256) : Fin 2048 :=
  ⟨rowOf (chunk c k) h + r.val, Nat.lt_of_lt_of_le (Nat.add_lt_add_left r.isLt _) (rowOf_le _ (chunk_lt c k) h)⟩

/-- The rows fetched are rows of the left factor. -/
theorem av_at (h : Bool) (k : Fin 4) (r : Fin 256) (t : Fin 1024) :
    (av m c h k (ix2 r t) : EReal) = lft m c (ix2 (rowIx c h k r) t) := by
  show m ((c : Thread nD τ).loc main_arg0) ((arow h c k).view.emb (ix2 r t)) = _
  refine congrArg (m ((c : Thread nD τ).loc main_arg0)) (Shape.idx_ext₂ ?_ ?_)
  · show offA h c k 0 + 1 * r.val = _
    rw [offA_eq, Nat.one_mul]; rfl
  · show offA h c k 1 + 1 * t.val = _
    rw [offA_eq, Nat.one_mul]; exact Nat.zero_add _

/-- The right factor's block is all of it. -/
theorem bv_at (t : Fin 1024) (j : Fin 2048) : (bv m c (ix2 t j) : EReal) = rgt m c (ix2 t j) := by
  show m ((c : Thread nD τ).loc main_arg1) ((win0_0.blk (0 : Fin 1)).view.emb (ix2 t j)) = _
  refine congrArg (m ((c : Thread nD τ).loc main_arg1)) (Shape.idx_ext₂ ?_ ?_)
  · exact Pipeline.Window.rect_emb_val_of_index_zero win0_0 (0 : Fin 1) 0 rfl (ix2 t j)
  · exact Pipeline.Window.rect_emb_val_of_index_zero win0_0 (0 : Fin 1) 1 rfl (ix2 t j)

/-- One device's share of an element of the product. -/
def part (c : Dev nD) (i j : Fin 2048) : EReal := ∑ t : Fin 1024, lft m c (ix2 i t) * rgt m c (ix2 t j)

/-- A device's partial product holds its share of every element. -/
theorem pv_at (h : Bool) (k : Fin 4) (r : Fin 256) (j : Fin 2048) :
    (pv m c h k (ix2 r j) : EReal) = part m c (rowIx c h k r) j := by
  unfold pv part
  rw [prodOf_at]
  exact Finset.sum_congr rfl fun t _ => by rw [av_at, bv_at]

end Cert.Mesh

end
-- ==== Proof.Result.lean ====
/- What the result array holds on every device, in exact arithmetic. -/
module

public import proofs.«01_k».proof.Proof.Launch
public import proofs.«01_k».proof.Proof.Product

@[expose] public section

noncomputable section

namespace Cert.Mesh

open Idealize.ShloMosaic Idealize.ShloMosaic.TcCoe Idealize.ShloMosaic.ValueIdx
open Idealize.ShloMosaic.Pipeline (Dat)
open Cert.KernelIdeal Cert.KernelIdeal.Gen
open scoped BigOperators

/-- A device and the three that fill its slots are all four. -/
theorem sum_ring (f : Dev nD → EReal) (c : Dev nD) : f c + f (src 0 c) + f (src 1 c) + f (src 2 c) = ∑ d : Dev nD, f d := by
  have e : ∑ d : Dev nD, f d = f 0 + f 1 + f 2 + f 3 := Fin.sum_univ_four f
  rw [e]
  match c with
  | 0 => show f 0 + f 3 + f 1 + f 2 = _; ac_rfl
  | 1 => show f 1 + f 0 + f 2 + f 3 = _; ac_rfl
  | 2 => show f 2 + f 1 + f 3 + f 0 = _; ac_rfl
  | 3 => show f 3 + f 2 + f 0 + f 1 = _; ac_rfl

/-- The rows a sender counts are the rows the receiver sums, -/
theorem rowIx_src (p : Fin 3) (c : Dev nD) (h : Bool) (r : Fin 256) : rowIx (src p c) h (sOff p h) r = rowIx c h (own h) r :=
  Fin.ext (by show rowOf _ h + r.val = rowOf _ h + r.val; rw [chunk_src])
/-- and the rows gathered are the rows their sender summed. -/
theorem rowIx_gat (p : Fin 3) (c : Dev nD) (h : Bool) (r : Fin 256) : rowIx (src p c) h (own h) r = rowIx c h (gOff p h) r :=
  Fin.ext (by show rowOf _ h + r.val = rowOf _ h + r.val; rw [chunk_gat])

section AtIdeal

variable (m : (ℓ : Loc nD τ sig) → Buf (Elt Ideal) ℓ) (ρ : Dev nD → PrngReg) (c : Dev nD)

/-- The rectified sum of the devices' shares of an element. -/
def total (i j : Fin 2048) : EReal := max (∑ d : Dev nD, part m d i j) 0

/-- The rows a device sums hold the rectified product. -/
theorem sv_at (h : Bool) (r : Fin 256) (j : Fin 2048) : (sv m c h (ix2 r j) : EReal) = total m (rowIx c h (own h) r) j := by
  unfold sv total
  rw [sumOf_at, pv_at, pv_at, pv_at, pv_at, rowIx_src, rowIx_src, rowIx_src, sum_ring (fun d => part m d _ j)]

/-- The rows a device gathers hold it too, -/
theorem tv_at (p : Fin 3) (h : Bool) (r : Fin 256) (j : Fin 2048) :
    (widen (tv m (src p c) h) (ix2 r j) : EReal) = total m (rowIx c h (gOff p h) r) j := by
  rw [widen_at]
  unfold tv
  rw [narrow_at, sv_at, rowIx_gat]

/-- so all eight pieces do, -/
theorem outPiece_at (x : Bool × Fin 4) (r : Fin 256) (j : Fin 2048) :
    (outPiece m c x (ix2 r j) : EReal) = total m (rowIx c x.1 x.2 r) j :=
  match x with
  | (false, 0) => tv_at m c 0 false r j
  | (false, 1) => sv_at m c false r j
  | (false, 2) => tv_at m c 1 false r j
  | (false, 3) => tv_at m c 2 false r j
  | (true, 0) => tv_at m c 1 true r j
  | (true, 1) => tv_at m c 2 true r j
  | (true, 2) => tv_at m c 0 true r j
  | (true, 3) => sv_at m c true r j

/-- and the whole array. -/
theorem outAt_at (i : S2048x2048.Idx) : (outAt m c i : EReal) = total m (i 0) (i 1) := by
  have hi : i ∈ (Finset.univ : Finset (Bool × Fin 4)).biUnion fun x => (rects c x).set := by
    rw [rects_cover]; exact Finset.mem_univ i
  obtain ⟨x, -, hx⟩ := Finset.mem_biUnion.1 hi
  obtain ⟨y, rfl⟩ : ∃ y, (rects c x).emb y = i := by
    rw [← Rect.map_emb_univ] at hx
    obtain ⟨y, -, e⟩ := Finset.mem_map.1 hx
    exact ⟨y, e⟩
  unfold outAt
  rw [Rect.glue_emb (rects c) (rects_cover c) (fun a b => rects_apart c a b)]
  refine (congrArg (outPiece m c x) (eq_ix2 (n0 := 256) (n1 := 2048) y)).trans ((outPiece_at m c x (y 0) (y 1)).trans ?_)
  congr 1
  · refine Fin.ext ?_
    show rowOf (chunk c x.2) x.1 + (y 0).val = offP x.1 c x.2 0 + 1 * (y 0).val
    rw [offP_eq, Nat.one_mul]; rfl
  · refine Fin.ext ?_
    show (y 1).val = offP x.1 c x.2 1 + 1 * (y 1).val
    rw [offP_eq, Nat.one_mul]; exact (Nat.zero_add _).symm

end AtIdeal

variable {F : FTy → Type} [FloatOps F] (m : (ℓ : Loc nD τ sig) → Buf (Elt F) ℓ) (ρ : Dev nD → PrngReg) (c : Dev nD)

/-- An element of the result's block is that element of the result. -/
theorem out_emb (t : Fin cfg0.N) (x : S2048x2048.Idx) : (win0_1.blk t).view.emb x = x :=
  Shape.idx_ext₂ (Pipeline.Window.rect_emb_val_of_index_zero win0_1 t 0 rfl x)
    (Pipeline.Window.rect_emb_val_of_index_zero win0_1 t 1 rfl x)

/-- The result array after the run holds what the body left in its staging buffer. -/
theorem finalA_out : finalA m ρ c (1 : Fin 2) = outAt m c :=
  (dats m ρ 0 c).arrAt_eq_of_cover (1 : Fin 2) (outAt m c)
    (fun t _ => funext fun x => congrArg (outAt m c) (out_emb t x).symm)
    (fun i => ⟨t0_0, flush0_1 t0_0, by
      have h := (win0_1.blk t0_0).view.emb_mem_set i
      rwa [out_emb t0_0 i] at h⟩)

end Cert.Mesh

end
-- ==== Proof.Reference.lean ====
/- What the reference computes, in exact arithmetic, and that the devices' shares add up to it. -/
module

public import proofs.«01_k».proof.Proof.Result
public import proofs.«01_k».proof.Proof.Gen.ReferenceIdeal.Run
public import Idealize.ShloMosaic.Lib.Layout

@[expose] public section

noncomputable section

namespace Cert.Mesh

open Idealize.ShloMosaic Idealize.ShloMosaic.TcCoe Idealize.ShloMosaic.ValueIdx
open scoped BigOperators

/-! ## The reference at an element -/

section Ref
open Cert.ReferenceIdeal Cert.ReferenceIdeal.Gen

/-- The reference's contraction. -/
abbrev dotR : DotDims S2048x4096 S4096x2048 S2048x2048 := dot_S2048x4096_S4096x2048_S2048x2048_1_0_0_1_n_n

/-- Its one contracted axis. -/
abbrev conR : dotR.contr.Idx ≃ Fin 4096 := contrEquiv1 dotR 4096 rfl rfl

/-- The element of the left factor a term reads, -/
theorem dotR_lhs (i j : Fin 2048) (t : Fin 4096) : dotR.lhsIdx (ix2 i j) (conR.symm t) = ix2 i t := by
  apply Shape.idx_ext₂
  · rfl
  · exact contrEquiv1_symm_val dotR 4096 rfl rfl t
/-- and of the right one. -/
theorem dotR_rhs (i j : Fin 2048) (t : Fin 4096) : dotR.rhsIdx (ix2 i j) (conR.symm t) = ix2 t j := by
  apply Shape.idx_ext₂
  · exact contrEquiv1_symm_val dotR 4096 rfl rfl t
  · rfl

/-- The reference's result, as the run of the reference states it. -/
abbrev refOf (A : Vec Ideal S2048x4096 .f32) (B : Vec Ideal S4096x2048 .f32) : Vec Ideal S2048x2048 .f32 :=
  maximumf (Host.dotGeneral (φ₁ := .f32) (φ₂ := .f32) dotR none A B)
    (broadcastInDim S2048x2048 ![] bcast_S_S2048x2048 (constant S_ .f32 0x00000000#32 : FVec Ideal S_ .f32))

/-- The reference's result at an element: the rectified sum of products along the whole contracted axis. -/
theorem refOf_at (A : Vec Ideal S2048x4096 .f32) (B : Vec Ideal S4096x2048 .f32) (i j : Fin 2048) :
    (refOf A B (ix2 i j) : EReal) = max (∑ t : Fin 4096, (A (ix2 i t) : EReal) * (B (ix2 t j) : EReal)) 0 := by
  show max (Host.dotGeneral (F := Ideal) (φ₁ := .f32) (φ₂ := .f32) dotR none A B (ix2 i j) : EReal) (Ideal.ofBits .f32 0x00000000#32) = _
  simp only [Host.dotGeneral]
  rw [Ideal.ofBits_zero_f32, Ideal.dotGeneral_apply, ← Equiv.sum_comp conR.symm]
  exact congrArg (fun e => max e 0) (Finset.sum_congr rfl fun t _ => by rw [dotR_lhs, dotR_rhs])

end Ref

/-! ## The shares add up -/

open Cert.KernelIdeal Cert.KernelIdeal.Gen

/-- Place `t` of the piece device `d` holds of the contracted axis. -/
def along (d : Fin 4) (t : Fin 1024) : Fin 4096 := ⟨d.val * 1024 + t.val, by have := d.isLt; have := t.isLt; omega⟩

/-- A sum along the contracted axis is the sum of the sums along its four pieces. -/
theorem sum_along (f : Fin 4096 → EReal) : ∑ d : Fin 4, ∑ t : Fin 1024, f (along d t) = ∑ t : Fin 4096, f t := by
  rw [← Fintype.sum_prod_type (f := fun x : Fin 4 × Fin 1024 => f (along x.1 x.2)),
    ← Equiv.sum_comp (finProdFinEquiv (m := 4) (n := 1024)) f]
  refine Finset.sum_congr rfl fun x _ => congrArg f (Fin.ext ?_)
  show x.1.val * 1024 + x.2.val = x.2.val + 1024 * x.1.val
  omega

variable (m : (ℓ : Loc nD τ sig) → Buf (Elt Ideal) ℓ) (c : Dev nD)
variable (A : Vec Ideal Cert.ReferenceIdeal.S2048x4096 .f32) (B : Vec Ideal Cert.ReferenceIdeal.S4096x2048 .f32)

/-- The devices hold the two factors cut along the contracted axis. -/
def Dealt : Prop := ∀ d : Dev nD,
  m ((d : Thread nD τ).loc main_arg0) = Layout.block ⟨2, ![2048, 1024]⟩ ⟨2, ![2048, 4096]⟩ 1 4 d A
  ∧ m ((d : Thread nD τ).loc main_arg1) = Layout.block ⟨2, ![1024, 2048]⟩ ⟨2, ![4096, 2048]⟩ 0 4 d B

variable {m A B}

/-- A device's share is the sum along its piece of the contracted axis. -/
theorem part_dealt (hd : Dealt m A B) (d : Dev nD) (i j : Fin 2048) :
    part m d i j = ∑ t : Fin 1024, (A (ix2 i (along d t)) : EReal) * (B (ix2 (along d t) j) : EReal) := by
  refine Finset.sum_congr rfl fun t _ => ?_
  have ha : lft m d (ix2 i t) = A (ix2 i (along d t)) :=
    (congrFun (hd d).1 (ix2 i t)).trans (congrArg A (Shape.idx_ext₂ rfl rfl))
  have hb : rgt m d (ix2 t j) = B (ix2 (along d t) j) :=
    (congrFun (hd d).2 (ix2 t j)).trans (congrArg B (Shape.idx_ext₂ rfl rfl))
  rw [ha, hb]

/-- On every device the result array is the reference's result. -/
theorem outAt_dealt (hd : Dealt m A B) (c : Dev nD) : outAt m c = refOf A B := by
  funext i
  refine (outAt_at m c i).trans ?_
  have e := eq_ix2 (n0 := 2048) (n1 := 2048) i
  refine Eq.trans ?_ (congrArg (refOf A B) e.symm)
  refine Eq.trans ?_ (refOf_at A B (i 0) (i 1)).symm
  unfold total
  refine congrArg (fun e => max e 0) ?_
  rw [← sum_along]
  exact Finset.sum_congr rfl fun d _ => part_dealt hd d (i 0) (i 1)

end Cert.Mesh

end
-- ==== Proof.Same.lean ====
/- The compiled program and the one of exact arithmetic are printed alike: one body table serves both. -/
module

public import proofs.«01_k».proof.Proof.Gen.Kernel
public import proofs.«01_k».proof.Proof.Gen.KernelIdeal

@[expose] public section

noncomputable section

namespace Cert.Mesh

open Idealize.ShloMosaic

variable {F : FTy → Type} [FloatOps F]

/-- The two kernels' body tables are one, -/
theorem defs₀_same : Cert.Kernel.defs₀ (F := F) = Cert.KernelIdeal.defs₀ (F := F) := by
  funext κ l x
  cases κ with
  | tc => match l, x with
    | 0, (_, _) => rfl
  | _ => rfl

/-- and so are the two programs'. -/
theorem defs_same : Cert.Kernel.defs (F := F) = Cert.KernelIdeal.defs (F := F) :=
  congrArg (Pipeline.defs (Cert.KernelIdeal.pcfgs (F := F))) defs₀_same

end Cert.Mesh

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Reference
public import proofs.«01_k».proof.Proof.Same
public import Idealize.ShloMosaic.Adequacy
public import Idealize.ShloMosaic.Init

@[expose] public section

noncomputable section

namespace Cert.Proof

open Idealize.ShloMosaic Idealize.SL.Sem Cert.Mesh

/-- The program leaves its arguments unchanged and every semaphore at zero, whatever its float values are. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)) ∧ r.2.sem = fun _ => 0 :=
  (θ_run Cert.KernelIdeal.defs _ _).mono
    (fun _ h => ⟨fun c => ⟨(h.1 c).2, ((h.1 c).1 (0 : Fin 2)).trans (finalA_in m ρ c)⟩, h.2⟩) (run_main m ρ)

/-- So does the compiled program, -/
theorem frame_kernel : Cert.quiescent_Kernel := fun m ρ _ => by
  have h := frame_any (F := Bits) m ρ
  rw [← defs_same] at h
  exact h

/-- and the same program in exact arithmetic. -/
theorem frame_kernelIdeal : Cert.quiescent_KernelIdeal := fun m ρ _ => frame_any (F := Ideal) m ρ

/-- So does the reference, which has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- In exact arithmetic every device of the kernel ends with the reference's whole result. -/
theorem algebraic_kernel : Cert.algebraic_KernelIdeal_ReferenceIdeal := fun m g m' g' _ hd =>
  ⟨refOf (m' ((0 : Dev Cert.ReferenceIdeal.nD).tc.loc Cert.ReferenceIdeal.main_arg0)) (m' ((0 : Dev Cert.ReferenceIdeal.nD).tc.loc Cert.ReferenceIdeal.main_arg1)),
    (θ_run Cert.KernelIdeal.defs _ _).mono
      (fun _ h c => ⟨((h.1 c).1 (1 : Fin 2)).trans ((finalA_out m g c).trans (outAt_dealt hd c)), (h.1 c).2,
        ((h.1 c).1 (0 : Fin 2)).trans (finalA_in m g c)⟩) (run_main (F := Ideal) m g),
    (θ_run Cert.ReferenceIdeal.defs _ _).mono (fun _ h => h 0) (Cert.ReferenceIdeal.Value.run (F := Ideal) m' g')⟩

/-- Everything the certificate claims. -/
theorem claim : Cert.Claim := ⟨Cert.Kernel.Gen.facts, Cert.KernelIdeal.Gen.facts, Cert.ReferenceIdeal.Gen.facts,
  frame_kernel, frame_kernelIdeal, frame_referenceIdeal, trivial, algebraic_kernel⟩

end Cert.Proof

end
